-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_intensity [hPre_finite_intensity : Cert.Pre_finite_intensity.Facts] (m : (ℓ : Loc Cert.KernelIdeal.nD Cert.KernelIdeal.τ Cert.KernelIdeal.sig) → Buf (Elt Ideal) ℓ) : Prop :=
  ∀ c : Dev Cert.KernelIdeal.nD,
    (Cert.Pre_finite_intensity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_intensity [hPre_finite_intensity : Cert.Pre_finite_intensity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_intensity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_intensity [hKernelIdeal : Cert.KernelIdeal.Facts] [hPre_finite_intensity : Cert.Pre_finite_intensity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_intensity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_intensity [hReferenceIdeal : Cert.ReferenceIdeal.Facts] [hPre_finite_intensity : Cert.Pre_finite_intensity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_intensity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "neg_half_log2e" .f32 0xBF38AA3B#32 ((-((1 / 2) * (Real.log 2)⁻¹) : ℝ) : EReal)

def algebraic_KernelIdeal_ReferenceIdeal_pre_finite_intensity [hKernelIdeal : Cert.KernelIdeal.Facts] [hReferenceIdeal : Cert.ReferenceIdeal.Facts] [hPre_finite_intensity : Cert.Pre_finite_intensity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_intensity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_intensity : Cert.Pre_finite_intensity.Facts),
    quiescent_Kernel (hKernel := hKernel)
    ∧ quiescent_KernelIdeal (hKernelIdeal := hKernelIdeal)
    ∧ quiescent_KernelIdeal_pre_finite_intensity (hKernelIdeal := hKernelIdeal) (hPre_finite_intensity := hPre_finite_intensity)
    ∧ quiescent_ReferenceIdeal (hReferenceIdeal := hReferenceIdeal)
    ∧ quiescent_ReferenceIdeal_pre_finite_intensity (hReferenceIdeal := hReferenceIdeal) (hPre_finite_intensity := hPre_finite_intensity)
    ∧ preserves_Kernel_KernelIdeal
    ∧ algebraic_KernelIdeal_ReferenceIdeal_pre_finite_intensity (hKernelIdeal := hKernelIdeal) (hReferenceIdeal := hReferenceIdeal) (hPre_finite_intensity := hPre_finite_intensity)
-- ==== Pre_finite_intensity.lean ====
abbrev S200000x3 : Shape := ⟨2, ![200000, 3]⟩
abbrev S3 : Shape := ⟨1, ![3]⟩
abbrev S200000x1 : Shape := ⟨2, ![200000, 1]⟩
abbrev S_ : Shape := ⟨0, ![]⟩

class Facts : Prop where
  bcast_S_S200000x1 : S_.BroadcastsInDim S200000x1 (![] : Fin 0 → Fin S200000x1.rank)

variable [Facts]

def fn {F : FTy → Type} [FloatOps F] (main_arg0 : FVec F S200000x3 .f32) (main_arg1 : FVec F S3 .f32) (main_arg2 : FVec F S200000x1 .f32) (main_arg3 : FVec F S200000x1 .f32) (main_arg4 : FVec F S200000x1 .f32) (main_arg5 : FVec F S200000x1 .f32) (main_arg6 : IVec S_ 32) : IVec S200000x1 1 :=
  let main_v0 : FVec F S200000x1 .f32 := Host.absf main_arg2
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_v3 : FVec F S200000x1 .f32 := Host.absf main_arg4
  let main_cst_0 : FVec F S_ .f32 := constant S_ .f32 0x7F800000#32
  let main_v4 : FVec F S200000x1 .f32 := broadcastInDim S200000x1 ![] bcast_S_S200000x1 main_cst_0
  let main_v5 : IVec S200000x1 1 := cmpf .olt main_v3 main_v4
  let main_v6 : IVec S200000x1 1 := andi main_v2 main_v5
  main_v6
-- ==== Kernel.lean ====
abbrev S200000x3 : Shape := ⟨2, ![200000, 3]⟩
abbrev S3 : Shape := ⟨1, ![3]⟩
abbrev S200000x1 : Shape := ⟨2, ![200000, 1]⟩
abbrev S_ : Shape := ⟨0, ![]⟩
abbrev S3x200000 : Shape := ⟨2, ![3, 200000]⟩
abbrev S1x200000 : Shape := ⟨2, ![1, 200000]⟩
abbrev S512x1 : Shape := ⟨2, ![512, 1]⟩
abbrev S3x4096 : Shape := ⟨2, ![3, 4096]⟩
abbrev S1x4096 : Shape := ⟨2, ![1, 4096]⟩
abbrev S512x128 : Shape := ⟨2, ![512, 128]⟩
abbrev S1 : Shape := ⟨1, ![1]⟩
abbrev S1x1024 : Shape := ⟨2, ![1, 1024]⟩
abbrev S1x128 : Shape := ⟨2, ![1, 128]⟩
abbrev S512 : Shape := ⟨1, ![512]⟩

abbrev nBuf : Space → Nat
  | .hbm => 14
  | .vmem => 12
  | .smem => 1
  | _ => 0

abbrev bufTy : (tb : Table) → Fin (tcTables nBuf tb) → BufTy
  | .hbm, ⟨0, _⟩ => ⟨S200000x3, .f32⟩
  | .hbm, ⟨1, _⟩ => ⟨S3, .f32⟩
  | .hbm, ⟨2, _⟩ => ⟨S200000x1, .f32⟩
  | .hbm, ⟨3, _⟩ => ⟨S200000x1, .f32⟩
  | .hbm, ⟨4, _⟩ => ⟨S200000x1, .f32⟩
  | .hbm, ⟨5, _⟩ => ⟨S200000x1, .f32⟩
  | .hbm, ⟨6, _⟩ => ⟨S_, .i32⟩
  | .hbm, ⟨7, _⟩ => ⟨S3x200000, .f32⟩
  | .hbm, ⟨8, _⟩ => ⟨S1x200000, .f32⟩
  | .hbm, ⟨9, _⟩ => ⟨S1x200000, .f32⟩
  | .hbm, ⟨10, _⟩ => ⟨S1x200000, .f32⟩
  | .hbm, ⟨11, _⟩ => ⟨S1x200000, .f32⟩
  | .hbm, ⟨12, _⟩ => ⟨S512x1, .f32⟩
  | .hbm, ⟨13, _⟩ => ⟨S512, .f32⟩
  | .local _ .vmem, ⟨0, _⟩ => ⟨S3x4096, .f32⟩
  | .local _ .vmem, ⟨1, _⟩ => ⟨S3x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S512x1, .f32⟩
  | .local _ .vmem, ⟨11, _⟩ => ⟨S512x128, .f32⟩
  | .local _ .smem, ⟨0, _⟩ => ⟨S3, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v874 : BitVec 1 := Scalar.cmpi .eq arg0 c48_i32
  let v875 : BitVec 32 := Scalar.extui v874
  let c0_i32_150 : BitVec 32 := 0#32
  let v876 : BitVec 1 := Scalar.cmpi .ne v875 c0_i32_150
  v876

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "neg_half_log2e" => some ((-((1 / 2) * (Real.log 2)⁻¹) : ℝ) : EReal)
  | _ => none
-- ==== ReferenceIdeal.lean ====
abbrev S200000x3 : Shape := ⟨2, ![200000, 3]⟩
abbrev S3 : Shape := ⟨1, ![3]⟩
abbrev S200000x1 : Shape := ⟨2, ![200000, 1]⟩
abbrev S_ : Shape := ⟨0, ![]⟩
abbrev S200000 : Shape := ⟨1, ![200000]⟩
abbrev S1x3 : Shape := ⟨2, ![1, 3]⟩
abbrev S512 : Shape := ⟨1, ![512]⟩
abbrev S1x512 : Shape := ⟨2, ![1, 512]⟩
abbrev S200000x512 : Shape := ⟨2, ![200000, 512]⟩

abbrev nBuf : Space → Nat
  | .hbm => 110
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S3, .f32⟩
  | .hbm, ⟨2, _⟩ => ⟨S200000x1, .f32⟩
  | .hbm, ⟨3, _⟩ => ⟨S200000x1, .f32⟩
  | .hbm, ⟨4, _⟩ => ⟨S200000x1, .f32⟩
  | .hbm, ⟨5, _⟩ => ⟨S200000x1, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S200000x1, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S200000x1, .f32⟩
  | .hbm, ⟨27, _⟩ => ⟨S200000x1, .f32⟩
  | .hbm, ⟨28, _⟩ => ⟨S_, .f32⟩
  | .hbm, ⟨29, _⟩ => ⟨S200000x1, .f32⟩
  | .hbm, ⟨30, _⟩ => ⟨S200000x1, .f32⟩
  | .hbm, ⟨31, _⟩ => ⟨S_, .f32⟩
  | .hbm, ⟨32, _⟩ => ⟨S200000x1, .f32⟩
  | .hbm, ⟨33, _⟩ => ⟨S200000x1, .f32⟩
  | .hbm, ⟨34, _⟩ => ⟨S1x3, .f32⟩
  | .hbm, ⟨35, _⟩ => ⟨S200000x3, .f32⟩
  | .hbm, ⟨36, _⟩ => ⟨S200000x3, .f32⟩
  | .hbm, ⟨37, _⟩ => ⟨S200000x3, .f32⟩
  | .hbm, ⟨38, _⟩ => ⟨S_, .f32⟩
  | .hbm, ⟨39, _⟩ => ⟨S200000, .f32⟩
  | .hbm, ⟨40, _⟩ => ⟨S200000x1, .f32⟩
  | .hbm, ⟨41, _⟩ => ⟨S200000x1, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S1x512, .f32⟩
  | .hbm, ⟨53, _⟩ => ⟨S200000x1, .f32⟩
  | .hbm, ⟨54, _⟩ => ⟨S_, .f32⟩
  | .hbm, ⟨55, _⟩ => ⟨S200000, .f32⟩
  | .hbm, ⟨56, _⟩ => ⟨S200000x1, .f32⟩
  | .hbm, ⟨57, _⟩ => ⟨S_, .f32⟩
  | .hbm, ⟨58, _⟩ => ⟨S200000x1, .f32⟩
  | .hbm, ⟨59, _⟩ => ⟨S200000x1, .f32⟩
  | .hbm, ⟨60, _⟩ => ⟨S_, .f32⟩
  | .hbm, ⟨61, _⟩ => ⟨S200000x1, .f32⟩
  | .hbm, ⟨62, _⟩ => ⟨S200000x1, .f32⟩
  | .hbm, ⟨63, _⟩ => ⟨S200000x512, .f32⟩
  | .hbm, ⟨64, _⟩ => ⟨S200000x512, .f32⟩
  | .hbm, ⟨65, _⟩ => ⟨S200000x512, .f32⟩
  | .hbm, ⟨66, _⟩ => ⟨S200000x512, .f32⟩
  | .hbm, ⟨67, _⟩ => ⟨S200000x512, .f32⟩
  | .hbm, ⟨68, _⟩ => ⟨S200000x512, .f32⟩
  | .hbm, ⟨69, _⟩ => ⟨S_, .f32⟩
  | .hbm, ⟨70, _⟩ => ⟨S200000x512, .f32⟩
  | .hbm, ⟨71, _⟩ => ⟨S200000x512, .f32⟩
  | .hbm, ⟨72, _⟩ => ⟨S200000x512, .f32⟩
  | .hbm, ⟨73, _⟩ => ⟨S_, .f32⟩
  | .hbm, ⟨74, _⟩ => ⟨S200000x512, .f32⟩
  | .hbm, ⟨75, _⟩ => ⟨S200000x512, .f32⟩
  | .hbm, ⟨76, _⟩ => ⟨S200000x512, .f32⟩
  | .hbm, ⟨77, _⟩ => ⟨S200000x512, .f32⟩
  | .hbm, ⟨78, _⟩ => ⟨S200000x512, .f32⟩
  | .hbm, ⟨79, _⟩ => ⟨S200000x1, .f32⟩
  | .hbm, ⟨80, _⟩ => ⟨S200000x512, .f32⟩
  | .hbm, ⟨81, _⟩ => ⟨S200000x512, .f32⟩
  | .hbm, ⟨82, _⟩ => ⟨S200000x512, .f32⟩
  | .hbm, ⟨83, _⟩ => ⟨S200000x512, .f32⟩
  | .hbm, ⟨84, _⟩ => ⟨S_, .f32⟩
  | .hbm, ⟨85, _⟩ => ⟨S200000x1, .f32⟩
  | .hbm, ⟨86, _⟩ => ⟨S200000x1, .f32⟩
  | .hbm, ⟨87, _⟩ => ⟨S200000x512, .f32⟩
  | .hbm, ⟨88, _⟩ => ⟨S200000x512, .f32⟩
  | .hbm, ⟨89, _⟩ => ⟨S200000x512, .f32⟩
  | .hbm, ⟨90, _⟩ => ⟨S_, .f32⟩
  | .hbm, ⟨91, _⟩ => ⟨S200000x512, .f32⟩
  | .hbm, ⟨92, _⟩ => ⟨S200000x512, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S200000x512, .f32⟩
  | .hbm, ⟨97, _⟩ => ⟨S200000x512, .f32⟩
  | .hbm, ⟨98, _⟩ => ⟨S_, .f32⟩
  | .hbm, ⟨99, _⟩ => ⟨S200000x512, .f32⟩
  | .hbm, ⟨100, _⟩ => ⟨S200000x512, .f32⟩
  | .hbm, ⟨101, _⟩ => ⟨S200000x1, .f32⟩
  | .hbm, ⟨102, _⟩ => ⟨S200000x512, .f32⟩
  | .hbm, ⟨103, _⟩ => ⟨S200000x512, .f32⟩
  | .hbm, ⟨104, _⟩ => ⟨S_, .f32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_c_2 : Ref sig .tc := ⟨.hbm, 11, rfl⟩
abbrev main_v1 : Ref sig .tc := ⟨.hbm, 12, rfl⟩
abbrev main_c_3 : Ref sig .tc := ⟨.hbm, 13, rfl⟩
abbrev main_v2 : Ref sig .tc := ⟨.hbm, 14, rfl⟩
abbrev main_c_4 : Ref sig .tc := ⟨.hbm, 15, rfl⟩
abbrev main_v3 : Ref sig .tc := ⟨.hbm, 16, rfl⟩
abbrev main_c_5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_cst_18 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_19 : Ref sig .tc := ⟨.hbm, 104, rfl⟩
abbrev main_v67 : Ref sig .tc := ⟨.hbm, 105, rfl⟩
abbrev main_cst_20 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== Proof.Words.Frame.lean ====
/- The compiled kernel over any float words: it terminates, writes none of its arguments, and leaves every counter at zero.
   What the staging and scratch buffers hold is never named here: every window is forgotten. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.FrameSuffixR
public import Idealize.ShloMosaic.Lib.Tactic

@[expose] public section

noncomputable section

namespace Cert.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of the body's, whole, at contents nobody names. -/
def held (c : Dev nD) {sp : Space} {s : Shape} {e : EltTy} (a : Memref sig .tc sp s e) : sProp 𝕄 :=
  iprop(∃ d, owns (c : Thread nD τ) a fullShare d)

/-- Held whole is the same as its cells holding something. -/
theorem held_eq (c : Dev nD) {sp : Space} {s : Shape} {e : EltTy} (a : Memref sig .tc sp s e) :
    held (F := F) c a = iprop(∃ f, a.view.loc (c : Thread nD τ) ↦[a.view.set]{fullShare} f) := by
  unfold held owns
  refine equiv_iff.mp ⟨(?_ : (_ : sProp 𝕄) ⊢ _), (?_ : (_ : sProp 𝕄) ⊢ _)⟩
  · iintro ⟨%d, %f, -, H⟩
    iexists f; iexact H
  · iintro ⟨%f, H⟩
    iexists _; iexists f; isplitr
    · ipureintro; rfl
    iexact H

set_option maxRecDepth 16384 in
set_option maxHeartbeats 4000000 in
/-- The kernel body, run on any eight whole buffers at any contents, returns those buffers, whichever way its two
    conditionals go. -/
theorem body_run (c : Dev nD) (i : grid0.Coords) (arg1 : Memref sig .tc .smem S3 .f32) (harg1 : arg1.IsWhole)
    (arg2 : Memref sig .tc .vmem S3x4096 .f32) (harg2 : arg2.IsWhole) (arg3 : Memref sig .tc .vmem S1x4096 .f32) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1x4096 .f32) (harg6 : arg6.IsWhole) (arg7 : Memref sig .tc .vmem S512x1 .f32) (harg7 : arg7.IsWhole)
    (arg8 : Memref sig .tc .vmem S512x128 .f32) (harg8 : arg8.IsWhole) (E : Set ℕ) (K : PUnit → sProp 𝕄) :
    iprop(held (F := F) c arg1 ∗ held (F := F) c arg2 ∗ held (F := F) c arg3 ∗ held (F := F) c arg4 ∗ held (F := F) c arg5
        ∗ held (F := F) c arg6 ∗ held (F := F) c arg7 ∗ held (F := F) c arg8
        ∗ (iprop(held (F := F) c arg1 ∗ held (F := F) c arg2 ∗ held (F := F) c arg3 ∗ held (F := F) c arg4 ∗ held (F := F) c arg5
            ∗ held (F := F) c arg6 ∗ held (F := F) c arg7 ∗ held (F := F) c arg8) -∗ K ⟨⟩))
      ⊢ wp frame (wpE (defs₀ (F := F)) Variants.none c none) E
          (cc0__hist_kernel i arg1 harg1 arg2 harg2 arg3 harg3 arg4 harg4 arg5 harg5 arg6 harg6 arg7 harg7 arg8 harg8) K := by
  simp only [cc0__hist_kernel_eq_skeleton]; unfold cc0__hist_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton]
  simp only [held_eq]
  iintro ⟨⟨%f0, H0⟩, ⟨%f1, H1⟩, ⟨%f2, H2⟩, ⟨%f3, H3⟩, ⟨%f4, H4⟩, ⟨%f5, H5⟩, ⟨%f6, H6⟩, ⟨%f7, H7⟩, Hk⟩
  by_cases hz : Scalar.cmpi .ne (Scalar.extui (Scalar.cmpi .eq (BitVec.ofNat 32 (i 0).val) 0#32)) 0#32 = 1#1 <;>
  by_cases hl : k0_cond2 i = 1#1 <;>
  · sl_exec (disch := first | sl_exact hz | sl_exact hl)
    sl_step
    iapply Hk
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-! ## The proof data and the body's obligation -/

/-- Every window is forgotten. -/
def forgets : Fin 7 → Bool := fun _ => true

/-- The proof data on core `c`: the arrays as the region finds them, nothing named of the buffers, the scratch at
    anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What the launch finds in a window's array is that array's first contents. -/
theorem A_eq (c : Dev nD) (w : Fin cfg0.W) : (dats m 0 c).A w = V m c (Pipeline.arrRef spec0 w) := by dsimp only [dats]

/-- The region's invariant is the scratch, held whole, and the generator's register. -/
theorem PhiA_eq (c : Dev nD) : (Pipeline.ΦA spec0 c : sProp 𝕄)
    = iprop(held (F := F) c (Memref.whole cc0_scratch0) ∗ (∃ r, prngReg c r)) := by
  unfold Pipeline.ΦA held; rw [scopedRest0_eq]; simp only [owns_whole]; try rfl

def bodyPre (c : Dev nD) (t : Fin cfg0.N) : sProp 𝕄 :=
  iprop((dats m 0 c).Φ t.castSucc ∗ (dats m 0 c).owesAt () t.castSucc
    ∗ held c (st0_0 t) ∗ held c (st0_1 t) ∗ held c (st0_2 t) ∗ held c (st0_3 t) ∗ held c (st0_4 t) ∗ held c (st0_5 t)
    ∗ held c (st0_6 t))
def bodyPost (c : Dev nD) (t : Fin cfg0.N) : sProp 𝕄 :=
  iprop((dats m 0 c).Φ t.succ ∗ (dats m 0 c).owesAt () t.succ
    ∗ held c (st0_0 t) ∗ held c (st0_1 t) ∗ held c (st0_2 t) ∗ held c (st0_3 t) ∗ held c (st0_4 t) ∗ held c (st0_5 t)
    ∗ held c (st0_6 t))

/-- The body at a grid point: it takes the buffers and the scratch and gives them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  iintro ⟨⟨HS, Hg⟩, HO, H0, H1, H2, H3, H4, H5, H6⟩
  iapply (body_run c (grid0.coords t) _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The table's row at a point is the body as the point calls it. -/
theorem defs₀_row (t : Fin cfg0.N) : defs₀ (F := F) .tc cfg0.body (cfg0.bodyArgs t (cfg0.slots t)) = bodyAt0 t := by
  unfold defs₀; rw [Defs.onTc_tc]

/-- The pipeline's obligation on the body, nothing named of any window. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

/-! ## The launch -/

/-- The host line after the region writes its own result only. -/
theorem tail_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.nullary_writes, StableHlo.unary_writes, StableHlo.binary_writes, StableHlo.reshape_writes,
    Finset.mem_singleton] at hb
  rw [Finset.mem_singleton]
  by_contra hne
  exact StableHlo.devRef_ne_of_ne hne hb

set_option backward.isDefEq.respectTransparency.types false in
set_option maxHeartbeats 800000 in
/-- Every run of the program ends, with every buffer that no window and no later host line writes at what the region
    found there, and every counter at zero. -/
theorem run_main :
    θ_run defs (onTc (τ := τ) (main (F := F))) (s₀ m ρ)
      (fun r => Pipeline.RDat.FramePostR (cfgs 0) (fun c => (dats m 0 c).toRForget forgets) {main_v6} (V m) r ∧ r.2.sem = fun _ => 0) :=
  Pipeline.θ_run_frame_around_T_forget (Q' := _) cfgs (dats m) (0 : Fin 1) launch0 defs₀ Variants.none forgets {main_v6} m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An argument that no window stages ends as it was launched. -/
theorem rest_kept {r : PUnit × MemSt nD τ sig (Elt F)}
    (h : Pipeline.RDat.FramePostR (cfgs 0) (fun c => (dats (F := F) m 0 c).toRForget forgets) {main_v6} (V m) r)
    (c : Dev nD) (b : Ref sig .tc) (hb : b ∈ Pipeline.restRefs sig spec0 \ {main_v6}) (hV : V m c b = m ((c : Thread nD τ).loc b)) :
    r.2.mem ((c.tc : Thread nD τ).loc b) = m ((c.tc : Thread nD τ).loc b) := ((h c).2 b hb).trans hV

/-- The frame of the compiled kernel: every run ends with the seven arguments as launched and all counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨rest_kept m h.1 c main_arg0 (by decide) (V_main_arg0 m c),
      (Pipeline.RDat.FramePostR.arr_in h.1 c 0 rfl).trans (V_main_arg1 m c),
      rest_kept m h.1 c main_arg2 (by decide) (V_main_arg2 m c),
      rest_kept m h.1 c main_arg3 (by decide) (V_main_arg3 m c),
      rest_kept m h.1 c main_arg4 (by decide) (V_main_arg4 m c),
      rest_kept m h.1 c main_arg5 (by decide) (V_main_arg5 m c),
      rest_kept m h.1 c main_arg6 (by decide) (V_main_arg6 m c)⟩, h.2⟩) (run_main m ρ)

end Cert.Words

end
-- ==== Proof.Exact.Step.lean ====
/- What the kernel body computes at one grid point, as functions of the blocks in its buffers: from each group of 1024
   columns four rows (distance, two amplitudes, exponent scale), from each run of 128 lanes of them one term per bin,
   thirty-two such terms added to the running sums. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Pipeline.ValueKit.Basic
public import Idealize.ShloMosaic.Lib.Tactic

@[expose] public section

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

/-! ## The pieces of the blocks the body reads -/

/-- A group's slice lies inside its row of coordinates. -/
theorem in_means (r : Fin 3) (g : Fin 4) : ∀ a, (![r.val, 1024 * g.val] : Fin 2 → Nat) a + S1x1024.size a ≤ S3x4096.size a := by
  revert r g; decide
/-- A group's slice lies inside its row. -/
theorem in_row (g : Fin 4) : ∀ a, (![0, 1024 * g.val] : Fin 2 → Nat) a + S1x1024.size a ≤ S1x4096.size a := by
  revert g; decide
/-- Each of the three scan coordinates lies inside its array. -/
theorem in_scan (k : Fin 3) : ∀ a, (![k.val] : Fin 1 → Nat) a + S1.size a ≤ S3.size a := by
  revert k; decide
/-- A chunk's slice lies inside its group. -/
theorem in_lanes (k : Fin 8) : S1x1024.Slices ![0, 128 * k.val] S1x128 := by
  revert k; decide

/-- Coordinate row `r` of group `g` of a block of means. -/
def meansAt (x : Vec F S3x4096 .f32) (r : Fin 3) (g : Fin 4) : Vec F S1x1024 .f32 :=
  View.ld x (Rect.unit (s := S3x4096) ![r.val, 1024 * g.val] S1x1024.size (in_means r g))
/-- Group `g` of a one-row block. -/
def rowAt (x : Vec F S1x4096 .f32) (g : Fin 4) : Vec F S1x1024 .f32 :=
  View.ld x (Rect.unit (s := S1x4096) ![0, 1024 * g.val] S1x1024.size (in_row g))
/-- Coordinate `k` of the scan point. -/
def scanAt (x : Vec F S3 .f32) (k : Fin 3) : Elt F .f32 :=
  View.ld x (Rect.unit (s := S3) ![k.val] S1.size (in_scan k)) (Shape.Idx.first (show 0 < S1.numel by decide))

/-! ## The rows of one group -/

/-- Which lanes of group `g` at point `j` are real columns. -/
def valid (j : BitVec 32) (g : Fin 4) : IVec S1x1024 1 :=
  cmpi .slt (addi (broadcast S1x1024 (Scalar.addi (Scalar.muli j 4096#32) (BitVec.ofNat 32 (1024 * g.val))))
    (iota .tc S1x1024 32 [1] iota_S1x1024_d1_w32)) (broadcast S1x1024 200000#32)

/-- A row of one float word. -/
def const (b : BitVec 32) : FVec F S1x1024 .f32 := broadcast S1x1024 (Scalar.ofBits .f32 b : F .f32)

/-- The four rows a group leaves for its lanes: the distance, the constant and the linear amplitude, the exponent's scale. -/
structure Rows (F : FTy → Type) where
  dist : FVec F S1x1024 .f32
  amp0 : FVec F S1x1024 .f32
  amp1 : FVec F S1x1024 .f32
  quad : FVec F S1x1024 .f32

/-- The rows from the group's columns. -/
def rows (j : BitVec 32) (g : Fin 4) (x0 : Vec F S3 .f32) (x1 : Vec F S3x4096 .f32)
    (x2 x3 x4 x5 : Vec F S1x4096 .f32) : Rows F where
  dist := select (valid j g) (k0_pay5 (scanAt x0 0) (scanAt x0 1) (scanAt x0 2) (meansAt x1 0 g) (meansAt x1 1 g) (meansAt x1 2 g))
    (const 0x00000000#32)
  amp0 := select (valid j g) (mulf (mulf (mulf (k0_pay10 (k0_pay6 (rowAt x2 g)) (rowAt x4 g)) (k0_pay9 (k0_pay7 (rowAt x3 g))))
    (const 0x3ECC422A#32)) (k0_pay8 (rowAt x5 g))) (const 0x00000000#32)
  amp1 := select (valid j g) (mulf (mulf (k0_pay10 (k0_pay6 (rowAt x2 g)) (rowAt x4 g))
    (subf (const 0x3F800000#32) (k0_pay9 (k0_pay7 (rowAt x3 g))))) (mulf (k0_pay8 (rowAt x5 g)) (k0_pay8 (rowAt x5 g))))
    (const 0x00000000#32)
  quad := select (valid j g) (mulf (broadcast S1x1024 (Named.named κ "neg_half_log2e" 0xBF38AA3B#32 : F .f32))
    (mulf (k0_pay8 (rowAt x5 g)) (k0_pay8 (rowAt x5 g)))) (const 0x00000000#32)

/-! ## The terms of 128 lanes, and the point -/

/-- Run `k` of 128 lanes of a row, repeated over the bins. -/
def lanes (v : FVec F S1x1024 .f32) (k : Fin 8) : FVec F S512x128 .f32 :=
  broadcastTo S512x128 (extractStridedSlice S1x128 ![0, 128 * k.val] v (in_lanes k)) broadcasts_S1x128_S512x128

/-- The running sums after the terms of run `k`. -/
def chunk (R : Rows F) (k : Fin 8) (a : FVec F S512x128 .f32) : FVec F S512x128 .f32 :=
  addf a (maximumf (mulf (exp2 (mulf (mulf (subf k0_pay4 (lanes R.dist k)) (subf k0_pay4 (lanes R.dist k))) (lanes R.quad k)))
    (addf (lanes R.amp0 k) (mulf (lanes R.amp1 k) (subf k0_pay4 (lanes R.dist k)))))
    (broadcast S512x128 (Scalar.ofBits .f32 0x00000000#32 : F .f32)))

/-- The running sums after a group's eight runs. -/
def group (R : Rows F) (a : FVec F S512x128 .f32) : FVec F S512x128 .f32 :=
  chunk R 7 (chunk R 6 (chunk R 5 (chunk R 4 (chunk R 3 (chunk R 2 (chunk R 1 (chunk R 0 a)))))))

/-- The running sums after a point's four groups. -/
def step (j : BitVec 32) (x0 : Vec F S3 .f32) (x1 : Vec F S3x4096 .f32) (x2 x3 x4 x5 : Vec F S1x4096 .f32)
    (a : FVec F S512x128 .f32) : FVec F S512x128 .f32 :=
  shapeCast S512x128 (group (rows j 3 x0 x1 x2 x3 x4 x5) (group (rows j 2 x0 x1 x2 x3 x4 x5)
    (group (rows j 1 x0 x1 x2 x3 x4 x5) (group (rows j 0 x0 x1 x2 x3 x4 x5) a)))) shapeCasts_S512x128_S512x128

end Cert.Exact

end
-- ==== Proof.Exact.Body.lean ====
/- The kernel body run on whole buffers: the buffers it only reads come back as they were, the running sums move on by
   `step`, and the result's buffer is written at the last point only. -/
module

public import proofs.«01_k».proof.Proof.Exact.Step

@[expose] public section

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- The body clears the running sums at this point. -/
def first (i : grid0.Coords) : Prop :=
  Scalar.cmpi .ne (Scalar.extui (Scalar.cmpi .eq (BitVec.ofNat 32 (i 0).val) 0#32)) 0#32 = 1#1
/-- The body writes the result at this point. -/
def last (i : grid0.Coords) : Prop := k0_cond2 i = 1#1

instance (i : grid0.Coords) : Decidable (first i) := by unfold first; infer_instance
instance (i : grid0.Coords) : Decidable (last i) := by unfold last; infer_instance

/-- The running sums a point leaves, from those it finds. -/
def sumsAfter (i : grid0.Coords) (x0 : Vec F S3 .f32) (x1 : Vec F S3x4096 .f32) (x2 x3 x4 x5 : Vec F S1x4096 .f32)
    (a : Vec F S512x128 .f32) : Vec F S512x128 .f32 :=
  step (BitVec.ofNat 32 (i 0).val) x0 x1 x2 x3 x4 x5 (if first i then k0_pay3 else a)

/-- A buffer whose last store covers it whole reads as what that store wrote. -/
theorem reads_back {κ : Kind} {sp : Space} {S : Shape} {e : EltTy} (v : View sig κ sp S e) (f : v.ty.Contents (Elt F))
    {off : Fin S.rank → Nat} (inb : ∀ a, off a + S.size a ≤ S.size a) (h : ∀ a, off a = 0) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero (funext h) inb y⟩)]
  exact View.canon_cons_unit_lit inb w L h

/-- A load of the whole of a buffer gives what the buffer holds. -/
theorem reads_whole {κ : Kind} {sp : Space} {S : Shape} {e : EltTy} (v : View sig κ sp S e) (f : v.ty.Contents (Elt F))
    {off : Fin S.rank → Nat} (inb : ∀ a, off a + S.size a ≤ S.size a) (h : ∀ a, off a = 0) :
    View.readAt (Elt F) v (Rect.unit off S.size inb).toLoadRect f = v.read (Elt F) f := by
  rw [View.readAt_eq_ld]; exact View.ld_unit_lit inb _ h

/-- A load of the whole of a buffer whose last store covers it whole gives what that store wrote. -/
theorem loads_back {κ : Kind} {sp : Space} {S : Shape} {e : EltTy} (v : View sig κ sp S e)
    {off : Fin S.rank → Nat} (inb : ∀ a, off a + S.size a ≤ S.size a) (h : ∀ a, off a = 0) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon v _ _ (fun j => ⟨_, List.mem_cons_self, View.mem_set_unit_zero (funext h) inb _⟩),
    View.canon_cons_unit_lit inb w L h]
  exact View.ld_unit_zero (funext h) inb w

/-- The running sums just cleared, as a load reads them. -/
theorem zeroed {κ : Kind} {sp : Space} (v : View sig κ sp S512x128 .f32) :
    v.readCov [(⟨Rect.unit ![0, 0] S512x128.size inb_S512x128_S512x128_0_0, k0_pay3 (F := F)⟩ : View.Piece (Elt F) S512x128 .f32)]
      (Rect.unit ![0, 0] S512x128.size inb_S512x128_S512x128_0_0).toLoadRect = k0_pay3 (F := F) :=
  loads_back (S := S512x128) v inb_S512x128_S512x128_0_0 (by decide) _ _

set_option maxRecDepth 16384 in
set_option maxHeartbeats 8000000 in
/-- The body's run, whichever way its two conditionals go. -/
theorem body_run (c : Dev nD) (i : grid0.Coords) (arg1 : Memref sig .tc .smem S3 .f32) (harg1 : arg1.IsWhole)
    (arg2 : Memref sig .tc .vmem S3x4096 .f32) (harg2 : arg2.IsWhole) (arg3 : Memref sig .tc .vmem S1x4096 .f32) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1x4096 .f32) (harg6 : arg6.IsWhole) (arg7 : Memref sig .tc .vmem S512x1 .f32) (harg7 : arg7.IsWhole)
    (arg8 : Memref sig .tc .vmem S512x128 .f32) (harg8 : arg8.IsWhole)
    (x0 : Vec F S3 .f32) (x1 : Vec F S3x4096 .f32) (x2 x3 x4 x5 : Vec F S1x4096 .f32) (x6 : Vec F S512x1 .f32)
    (a : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (if last i then k0_pay2 (sumsAfter i x0 x1 x2 x3 x4 x5 a) else x6)
            ∗ owns (c : Thread nD τ) arg8 fullShare (sumsAfter i x0 x1 x2 x3 x4 x5 a)) -∗ K ⟨⟩))
      ⊢ wp frame (wpE (defs₀ (F := F)) Variants.none c none) E
          (cc0__hist_kernel i arg1 harg1 arg2 harg2 arg3 harg3 arg4 harg4 arg5 harg5 arg6 harg6 arg7 harg7 arg8 harg8) K := by
  simp only [cc0__hist_kernel_eq_skeleton]; unfold cc0__hist_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  by_cases hz : first i <;> by_cases hl : last i
  all_goals
    sl_exec (disch := first | sl_exact hz | sl_exact hl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      first
        | rw [if_neg hl]
        | rw [if_pos hl]
          refine (reads_back (S := S512x1) (off := ![0, 0]) arg7.view f6 inb_S512x1_S512x1_0_0 (by decide) _ _).trans ?_
          refine congrArg (fun z => k0_pay2 z) ?_
          first
            | rw [sumsAfter, if_neg hz, ← reads_whole arg8.view f7 inb_S512x128_S512x128_0_0 (by decide)]
              exact loads_back (S := S512x128) arg8.view inb_S512x128_S512x128_0_0 (by decide) _ _
            | rw [sumsAfter, if_pos hz, ← zeroed arg8.view]
              exact loads_back (S := S512x128) arg8.view inb_S512x128_S512x128_0_0 (by decide) _ _
    iexists _; isplitr; swap; · iexact H7
    ipureintro
    refine (reads_back (S := S512x128) (off := ![0, 0]) arg8.view f7 inb_S512x128_S512x128_0_0 (by decide) _ _).trans ?_
    unfold sumsAfter
    first
      | rw [if_neg hz, ← reads_whole arg8.view f7 inb_S512x128_S512x128_0_0 (by decide)]
        rfl
      | rw [if_pos hz, ← zeroed arg8.view]
        rfl

end Cert.Exact

end
-- ==== Proof.Exact.Column.lean ====
/- What the body makes of one column of the arrays: the four rows of a group, read at a lane, are a function of that one
   column, and are zero past the arrays' end. So the point's sums depend on the columns inside the arrays only. -/
module

public import proofs.«01_k».proof.Proof.Exact.Step
public import Idealize.ShloMosaic.Lib.WordCmp
public import Idealize.ShloMosaic.Lib.ValueIdxCore

@[expose] public section

noncomputable section

namespace Cert.Exact

open Cert.KernelIdeal Cert.KernelIdeal.Gen
open Idealize.ShloMosaic Idealize.ShloMosaic.TcCoe Idealize.ShloMosaic.ValueIdx Idealize.ShloMosaic.WordCmp

variable {F : FTy → Type} [FloatOps F] [Named F]

/-- One column of the arrays the body reads. -/
structure Col (F : FTy → Type) where
  p0 : F .f32
  p1 : F .f32
  p2 : F .f32
  colour : F .f32
  coef : F .f32
  opac : F .f32
  scale : F .f32

namespace Col

/-- A float word as a value. -/
abbrev lit (b : BitVec 32) : F .f32 := Scalar.ofBits .f32 b

variable (q : Col F)

/-- The distance of the column's point from the scan point. -/
def dist (s0 s1 s2 : F .f32) : F .f32 :=
  FloatOps.sqrt (FloatOps.addf (FloatOps.addf (FloatOps.mulf (FloatOps.subf q.p0 s0) (FloatOps.subf q.p0 s0))
    (FloatOps.mulf (FloatOps.subf q.p1 s1) (FloatOps.subf q.p1 s1))) (FloatOps.mulf (FloatOps.subf q.p2 s2) (FloatOps.subf q.p2 s2)))
/-- The reciprocal width. -/
def isig : F .f32 := FloatOps.divf (lit 0x3F800000#32) (FloatOps.maximumf (FloatOps.exp q.scale) (lit 0x3BA3D70A#32))
/-- The share of the first density. -/
def share : F .f32 :=
  FloatOps.divf (lit 0x3F800000#32) (FloatOps.addf (lit 0x3F800000#32) (FloatOps.exp (FloatOps.subf (lit 0x00000000#32) q.coef)))
/-- The intensity times the bin's width. -/
def amp : F .f32 :=
  FloatOps.mulf (FloatOps.mulf (FloatOps.mulf q.opac q.opac) (FloatOps.mulf q.colour q.colour)) (lit 0x3BA3D70A#32)
/-- The constant amplitude. -/
def amp0 : F .f32 := FloatOps.mulf (FloatOps.mulf (FloatOps.mulf q.amp q.share) (lit 0x3ECC422A#32)) q.isig
/-- The linear amplitude. -/
def amp1 : F .f32 :=
  FloatOps.mulf (FloatOps.mulf q.amp (FloatOps.subf (lit 0x3F800000#32) q.share)) (FloatOps.mulf q.isig q.isig)
/-- The exponent's scale. -/
def quad : F .f32 := FloatOps.mulf (Named.named κ "neg_half_log2e" 0xBF38AA3B#32 : F .f32) (FloatOps.mulf q.isig q.isig)

end Col

/-- The column at place `n` of the blocks. -/
def column (x1 : Vec F S3x4096 .f32) (x2 x3 x4 x5 : Vec F S1x4096 .f32) (n : Fin 4096) : Col F :=
  ⟨x1 (ix2 0 n), x1 (ix2 1 n), x1 (ix2 2 n), x2 (ix2 0 n), x3 (ix2 0 n), x4 (ix2 0 n), x5 (ix2 0 n)⟩

/-- The place in the block of lane `l` of group `g`. -/
def place (g : Fin 4) (l : Fin 1024) : Fin 4096 := ⟨1024 * g.val + l.val, by omega⟩

/-- Lane `l` of group `g` is place 1024·g + l of the block. -/
theorem place_val (g : Fin 4) (l : Fin 1024) : (place g l).val = 1024 * g.val + l.val := rfl

/-- A group's row of coordinates, lane by lane, is read from the block at that lane's place. -/
theorem meansAt_apply (x : Vec F S3x4096 .f32) (r : Fin 3) (g : Fin 4) (l : Fin 1024) :
    meansAt x r g (ix2 0 l) = x (ix2 r (place g l)) := by
  refine congrArg x (funext fun a => Fin.ext ?_)
  match a with
  | ⟨0, _⟩ => show r.val + 1 * 0 = r.val; omega
  | ⟨1, _⟩ => show 1024 * g.val + 1 * l.val = 1024 * g.val + l.val; omega

/-- A group's row of a one-row block, lane by lane, is read at that lane's place. -/
theorem rowAt_apply (x : Vec F S1x4096 .f32) (g : Fin 4) (l : Fin 1024) :
    rowAt x g (ix2 0 l) = x (ix2 0 (place g l)) := by
  refine congrArg x (funext fun a => Fin.ext ?_)
  match a with
  | ⟨0, _⟩ => rfl
  | ⟨1, _⟩ => show 1024 * g.val + 1 * l.val = 1024 * g.val + l.val; omega

/-- The lane is a real column exactly when its place in the whole arrays is below their length. -/
theorem valid_apply (j : ℕ) (hj : j < 49) (g : Fin 4) (l : Fin 1024) :
    valid (BitVec.ofNat 32 j) g (ix2 0 l) = if j * 4096 + 1024 * g.val + l.val < 200000 then 1#1 else 0#1 := by
  have h1 : j * 4096 + 1024 * g.val + l.val < 2 ^ 31 := by have := g.isLt; have := l.isLt; omega
  have e : valid (BitVec.ofNat 32 j) g (ix2 0 l)
      = IntOp.cmpi .slt (IntOp.addi (IntOp.addi (IntOp.muli (BitVec.ofNat 32 j) (BitVec.ofNat 32 4096)) (BitVec.ofNat 32 (1024 * g.val)))
          (BitVec.ofNat 32 l.val)) (BitVec.ofNat 32 200000) := by
    unfold valid
    rw [show (cmpi .slt (addi (broadcast S1x1024 (Scalar.addi (Scalar.muli (BitVec.ofNat 32 j) 4096#32) (BitVec.ofNat 32 (1024 * g.val))))
        (iota .tc S1x1024 32 [1] iota_S1x1024_d1_w32)) (broadcast S1x1024 200000#32)) (ix2 0 l)
        = IntOp.cmpi .slt (IntOp.addi (Scalar.addi (Scalar.muli (BitVec.ofNat 32 j) 4096#32) (BitVec.ofNat 32 (1024 * g.val)))
          (iota .tc S1x1024 32 [1] iota_S1x1024_d1_w32 (ix2 0 l))) 200000#32 from rfl, iota_single_apply]
    rfl
  rw [e, muli_ofNat, addi_ofNat, addi_ofNat, cmpi_slt_ofNat (by omega) (by omega), ofBool_decide_eq_ite]

variable (j : ℕ) (g : Fin 4) (x0 : Vec F S3 .f32) (x1 : Vec F S3x4096 .f32) (x2 x3 x4 x5 : Vec F S1x4096 .f32) (l : Fin 1024)

/-- A lane's distance, zero past the arrays' end. -/
theorem rows_dist (b : BitVec 32) : (rows b g x0 x1 x2 x3 x4 x5).dist (ix2 0 l)
    = Scalar.select (valid b g (ix2 0 l)) ((column x1 x2 x3 x4 x5 (place g l)).dist (scanAt x0 0) (scanAt x0 1) (scanAt x0 2))
      (Col.lit 0x00000000#32) := by
  unfold rows Col.dist column
  simp only [← meansAt_apply]
  simp only [k0_pay5, shapeCast_self]
  rfl

/-- A lane's first amplitude, zero past the arrays' end. -/
theorem rows_amp0 (b : BitVec 32) : (rows b g x0 x1 x2 x3 x4 x5).amp0 (ix2 0 l)
    = Scalar.select (valid b g (ix2 0 l)) (column x1 x2 x3 x4 x5 (place g l)).amp0 (Col.lit 0x00000000#32) := by
  unfold rows Col.amp0 Col.amp Col.share Col.isig column
  simp only [← rowAt_apply]
  simp only [k0_pay6, k0_pay7, k0_pay8, k0_pay9, k0_pay10, shapeCast_self]
  rfl

/-- A lane's second amplitude, zero past the arrays' end. -/
theorem rows_amp1 (b : BitVec 32) : (rows b g x0 x1 x2 x3 x4 x5).amp1 (ix2 0 l)
    = Scalar.select (valid b g (ix2 0 l)) (column x1 x2 x3 x4 x5 (place g l)).amp1 (Col.lit 0x00000000#32) := by
  unfold rows Col.amp1 Col.amp Col.share Col.isig column
  simp only [← rowAt_apply]
  simp only [k0_pay6, k0_pay7, k0_pay8, k0_pay9, k0_pay10, shapeCast_self]
  rfl

/-- A lane's exponent factor, zero past the arrays' end. -/
theorem rows_quad (b : BitVec 32) : (rows b g x0 x1 x2 x3 x4 x5).quad (ix2 0 l)
    = Scalar.select (valid b g (ix2 0 l)) (column x1 x2 x3 x4 x5 (place g l)).quad (Col.lit 0x00000000#32) := by
  unfold rows Col.quad Col.isig column
  simp only [← rowAt_apply]
  simp only [k0_pay8, shapeCast_self]
  rfl

/-! ## Columns past the arrays' end do not matter -/

variable {j} {x1 x2 x3 x4 x5}

/-- The rows of a group depend only on the places that lie inside the arrays. -/
theorem rows_congr (hj : j < 49) {y1 : Vec F S3x4096 .f32} {y2 y3 y4 y5 : Vec F S1x4096 .f32}
    (h : ∀ n : Fin 4096, j * 4096 + n.val < 200000 → column x1 x2 x3 x4 x5 n = column y1 y2 y3 y4 y5 n) :
    rows (BitVec.ofNat 32 j) g x0 x1 x2 x3 x4 x5 = rows (BitVec.ofNat 32 j) g x0 y1 y2 y3 y4 y5 := by
  have key : ∀ (l : Fin 1024) (f : Col F → F .f32), Scalar.select (valid (BitVec.ofNat 32 j) g (ix2 0 l))
        (f (column x1 x2 x3 x4 x5 (place g l))) (Col.lit 0x00000000#32)
      = Scalar.select (valid (BitVec.ofNat 32 j) g (ix2 0 l)) (f (column y1 y2 y3 y4 y5 (place g l))) (Col.lit 0x00000000#32) := by
    intro l f
    rw [valid_apply j hj]
    split
    · next hl => rw [h (place g l) (by rw [place_val, ← Nat.add_assoc]; exact hl)]
    · rfl
  have idx : ∀ i : S1x1024.Idx, i = ix2 0 (i 1) := fun i => by
    exact (eq_ix2 i).trans (congrArg (fun z : Fin 1 => ix2 z (i 1)) ((by decide : ∀ z : Fin 1, z = 0) (i 0)))
  have ext : ∀ {R S : Rows F}, (∀ l, R.dist (ix2 0 l) = S.dist (ix2 0 l)) → (∀ l, R.amp0 (ix2 0 l) = S.amp0 (ix2 0 l)) →
      (∀ l, R.amp1 (ix2 0 l) = S.amp1 (ix2 0 l)) → (∀ l, R.quad (ix2 0 l) = S.quad (ix2 0 l)) → R = S := by
    intro R S h1 h2 h3 h4
    cases R; cases S
    congr 1 <;> · funext i; rw [idx i]; first | exact h1 _ | exact h2 _ | exact h3 _ | exact h4 _
  refine ext (fun l => ?_) (fun l => ?_) (fun l => ?_) (fun l => ?_)
  · rw [rows_dist, rows_dist]; exact key l (fun q => q.dist _ _ _)
  · rw [rows_amp0, rows_amp0]; exact key l Col.amp0
  · rw [rows_amp1, rows_amp1]; exact key l Col.amp1
  · rw [rows_quad, rows_quad]; exact key l Col.quad

/-- A point's sums are the same for blocks that agree on the columns inside the arrays. -/
theorem step_congr (hj : j < 49) {y1 : Vec F S3x4096 .f32} {y2 y3 y4 y5 : Vec F S1x4096 .f32} (a : FVec F S512x128 .f32)
    (h : ∀ n : Fin 4096, j * 4096 + n.val < 200000 → column x1 x2 x3 x4 x5 n = column y1 y2 y3 y4 y5 n) :
    step (BitVec.ofNat 32 j) x0 x1 x2 x3 x4 x5 a = step (BitVec.ofNat 32 j) x0 y1 y2 y3 y4 y5 a := by
  unfold step
  rw [rows_congr 0 x0 hj h, rows_congr 1 x0 hj h, rows_congr 2 x0 hj h, rows_congr 3 x0 hj h]

end Cert.Exact

end
-- ==== Proof.Exact.Sums.lean ====
/- The running sums point by point, and that the part of a buffer past the arrays' end does not enter them. -/
module

public import proofs.«01_k».proof.Proof.Exact.Body
public import proofs.«01_k».proof.Proof.Exact.Column

@[expose] public section

noncomputable section

namespace Cert.Exact

open Cert.KernelIdeal Cert.KernelIdeal.Gen
open Idealize.ShloMosaic Idealize.ShloMosaic.TcCoe Idealize.ShloMosaic.ValueIdx Idealize.ShloMosaic.WordCmp
open Idealize.ShloMosaic.Pipeline (Dat Cfg Window BodyObligationLoose)

variable {F : FTy → Type} [FloatOps F] [Named F]

variable (m : (ℓ : Loc nD τ sig) → Buf (Elt F) ℓ)

/-! ## The grid's points -/

/-- There are 49 steps. -/
theorem lt_grid (t : Fin cfg0.N) : t.val < 49 := Nat.lt_of_lt_of_eq t.isLt N_0

/-- A step's coordinate is its number. -/
theorem coord (t : Fin grid0.N) : (grid0.coords t 0).val = t.val := by
  have h : t.val < 49 := lt_grid t
  have e0 : (grid0.coords t 0).val = t.val / 1 % 49 := Pipeline.Grid.coords_val t 0 (by decide) rfl
  rw [e0, Nat.div_one, Nat.mod_eq_of_lt h]

/-- The first branch is taken at step 0 alone. -/
theorem first_iff (t : Fin grid0.N) : first (grid0.coords t) ↔ t.val = 0 := by
  have h : t.val < 49 := lt_grid t
  unfold first
  rw [coord]
  word_cmp

/-- The last branch is taken at step 48 alone. -/
theorem last_iff (t : Fin grid0.N) : last (grid0.coords t) ↔ t.val = 48 := by
  have h : t.val < 49 := lt_grid t
  unfold last k0_cond2
  simp only [coord]
  word_cmp

/-- Before the last step the result's window is idle. -/
theorem idle_last (t : Fin cfg0.N) (h : ¬ last (grid0.coords t)) : cfg0.idle 6 (grid0.coords t) = true := by
  show (!(k0_cond2 (grid0.coords t) == 1#1)) = true
  unfold last at h
  simp [h]

/-- At the last step the result's window is written. -/
theorem live_last (t : Fin cfg0.N) (h : last (grid0.coords t)) : cfg0.idle 6 (grid0.coords t) = false := by
  show (!(k0_cond2 (grid0.coords t) == 1#1)) = false
  unfold last at h
  simp [h]

/-- Before the last step the result is not copied out. -/
theorem no_flush (t : Fin cfg0.N) (h : ¬ last (grid0.coords t)) : (cfg0.win 6).flush t = false := by
  have h1 : ¬ t.val = 48 := fun e => h ((last_iff t).mpr e)
  have h2 := lt_grid t
  rw [Bool.eq_false_iff]
  exact fun e => by have := (flush0_6 t).mp e; omega

/-! ## The part of a block inside the array -/

/-- A place before the array's end lies in the part of the block that is copied. -/
theorem inside {t n : ℕ} (hn : n < 4096) (h : t * 4096 + n < 200000) : n < (Pipeline.Clip.of t 4096 200000).extent 4096 := by
  unfold Pipeline.Clip.of
  split
  · exact hn
  · show n < 200000 - t * 4096; omega

/-- A step's coordinate as a word is its number. -/
theorem word (t : Fin grid0.N) : (BitVec.ofNat 32 (grid0.coords t 0).val).toNat = t.val := by
  have h : t.val < 49 := lt_grid t
  rw [coord, toNat_ofNat_of_lt (by omega)]

/-- Place `n` of a row of means is moved by the point's transfer when it lies inside the array. -/
theorem moved_means (t : Fin grid0.N) (r : Fin 3) (n : Fin 4096) (h : t.val * 4096 + n.val < 200000) :
    win0_1.moved (grid0.coords t) (ix2 r n) = true :=
  (Window.moved_iff win0_1 _ _).mpr fun a => match a with
    | ⟨0, _⟩ => r.isLt
    | ⟨1, _⟩ => by
      have := inside n.isLt h
      rw [← word t] at this
      exact this

/-- A place of the block that lies inside the array of colours was copied in. -/
theorem moved_2 (t : Fin grid0.N) (n : Fin 4096) (h : t.val * 4096 + n.val < 200000) :
    win0_2.moved (grid0.coords t) (ix2 0 n) = true :=
  (Window.moved_iff win0_2 _ _).mpr fun a => match a with
    | ⟨0, _⟩ => Nat.zero_lt_one
    | ⟨1, _⟩ => by have := inside n.isLt h; rw [← word t] at this; exact this
/-- A place of the block that lies inside the array of coefficients was copied in. -/
theorem moved_3 (t : Fin grid0.N) (n : Fin 4096) (h : t.val * 4096 + n.val < 200000) :
    win0_3.moved (grid0.coords t) (ix2 0 n) = true :=
  (Window.moved_iff win0_3 _ _).mpr fun a => match a with
    | ⟨0, _⟩ => Nat.zero_lt_one
    | ⟨1, _⟩ => by have := inside n.isLt h; rw [← word t] at this; exact this
/-- A place of the block that lies inside the array of opacities was copied in. -/
theorem moved_4 (t : Fin grid0.N) (n : Fin 4096) (h : t.val * 4096 + n.val < 200000) :
    win0_4.moved (grid0.coords t) (ix2 0 n) = true :=
  (Window.moved_iff win0_4 _ _).mpr fun a => match a with
    | ⟨0, _⟩ => Nat.zero_lt_one
    | ⟨1, _⟩ => by have := inside n.isLt h; rw [← word t] at this; exact this
/-- A place of the block that lies inside the array of scales was copied in. -/
theorem moved_5 (t : Fin grid0.N) (n : Fin 4096) (h : t.val * 4096 + n.val < 200000) :
    win0_5.moved (grid0.coords t) (ix2 0 n) = true :=
  (Window.moved_iff win0_5 _ _).mpr fun a => match a with
    | ⟨0, _⟩ => Nat.zero_lt_one
    | ⟨1, _⟩ => by have := inside n.isLt h; rw [← word t] at this; exact this

/-- A moved place reads the same whatever filled the rest. -/
theorem fill_moved {w : Window sig grid0} {α : Type} {i : grid0.Coords} {j : w.block.Idx} (h : w.moved i j = true)
    (d d' : w.block.Idx → α) (g : (w.xblock i).Idx → α) : w.fill i d g j = w.fill i d' g j := by
  unfold Window.fill; rw [dif_pos h, dif_pos h]

/-! ## The running sums -/

/-- The blocks at a point, the part past the arrays' end filled with zeros. -/
def blk0 (c : Dev nD) (t : Fin cfg0.N) : Vec F S3 .f32 := iblk m c 0 t
def blk1 (c : Dev nD) (t : Fin cfg0.N) : Vec F S3x4096 .f32 :=
  win0_1.fill (grid0.coords t) (fun _ => Scalar.ofBits .f32 0x00000000#32) (iblk m c 1 t)
def blk2 (c : Dev nD) (t : Fin cfg0.N) : Vec F S1x4096 .f32 :=
  win0_2.fill (grid0.coords t) (fun _ => Scalar.ofBits .f32 0x00000000#32) (iblk m c 2 t)
def blk3 (c : Dev nD) (t : Fin cfg0.N) : Vec F S1x4096 .f32 :=
  win0_3.fill (grid0.coords t) (fun _ => Scalar.ofBits .f32 0x00000000#32) (iblk m c 3 t)
def blk4 (c : Dev nD) (t : Fin cfg0.N) : Vec F S1x4096 .f32 :=
  win0_4.fill (grid0.coords t) (fun _ => Scalar.ofBits .f32 0x00000000#32) (iblk m c 4 t)
def blk5 (c : Dev nD) (t : Fin cfg0.N) : Vec F S1x4096 .f32 :=
  win0_5.fill (grid0.coords t) (fun _ => Scalar.ofBits .f32 0x00000000#32) (iblk m c 5 t)

/-- The running sums after point `n`. -/
def sums (c : Dev nD) : (n : ℕ) → n < cfg0.N → Vec F S512x128 .f32
  | 0, h => step (BitVec.ofNat 32 0) (blk0 m c ⟨0, h⟩) (blk1 m c ⟨0, h⟩) (blk2 m c ⟨0, h⟩) (blk3 m c ⟨0, h⟩) (blk4 m c ⟨0, h⟩)
      (blk5 m c ⟨0, h⟩) k0_pay3
  | n + 1, h => step (BitVec.ofNat 32 (n + 1)) (blk0 m c ⟨n + 1, h⟩) (blk1 m c ⟨n + 1, h⟩) (blk2 m c ⟨n + 1, h⟩) (blk3 m c ⟨n + 1, h⟩)
      (blk4 m c ⟨n + 1, h⟩) (blk5 m c ⟨n + 1, h⟩) (sums c n (Nat.lt_of_succ_lt h))

/-- What the body leaves in the running sums does not depend on what fills the blocks past the arrays' end. -/
theorem sumsAfter_fill (c : Dev nD) (t : Fin cfg0.N) (d1 : Vec F S3x4096 .f32) (d2 d3 d4 d5 : Vec F S1x4096 .f32)
    (a : Vec F S512x128 .f32) :
    sumsAfter (grid0.coords t) (blk0 m c t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t))
        (win0_5.fill (grid0.coords t) d5 (iblk m c 5 t)) a
      = step (BitVec.ofNat 32 t.val) (blk0 m c t) (blk1 m c t) (blk2 m c t) (blk3 m c t) (blk4 m c t) (blk5 m c t)
          (if t.val = 0 then k0_pay3 else a) := by
  unfold sumsAfter
  rw [coord]
  simp only [first_iff]
  refine step_congr (j := t.val) _ (lt_grid t) _ fun n hn => ?_
  unfold column blk1 blk2 blk3 blk4 blk5
  congr 1
  · exact fill_moved (moved_means t 0 n hn) _ _ _
  · exact fill_moved (moved_means t 1 n hn) _ _ _
  · exact fill_moved (moved_means t 2 n hn) _ _ _
  · exact fill_moved (moved_2 t n hn) _ _ _
  · exact fill_moved (moved_3 t n hn) _ _ _
  · exact fill_moved (moved_4 t n hn) _ _ _
  · exact fill_moved (moved_5 t n hn) _ _ _

end Cert.Exact

end
-- ==== Proof.Exact.Frame.lean ====
/- The kernel's pipeline with the running sums tracked: every run ends, the arrays at what the proof data say, the
   arguments as launched, every counter at zero. -/
module

public import proofs.«01_k».proof.Proof.Exact.Sums
public import Idealize.ShloMosaic.Lib.Claim

@[expose] public section

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The running sums' buffer. -/
abbrev sumsBuf : Memref sig .tc .vmem S512x128 .f32 := Memref.whole cc0_scratch0

/-- The region's invariant before point `n`: the running sums at what the point before left. -/
def PhiS (c : Dev nD) : (n : ℕ) → n ≤ cfg0.N → sProp 𝕄
  | 0, _ => Pipeline.ΦA spec0 c
  | n + 1, hn => iprop(owns (c : Thread nD τ) sumsBuf fullShare (sums m c n hn) ∗ (∃ r, prngReg c r))

/-- Before the first point the running sums hold anything. -/
theorem PhiA_eq (c : Dev nD) : (Pipeline.ΦA spec0 c : sProp 𝕄)
    = iprop((∃ d, owns (c : Thread nD τ) sumsBuf fullShare d) ∗ (∃ r, prngReg c r)) := by
  unfold Pipeline.ΦA; rw [scopedRest0_eq]; simp only [owns_whole]; try rfl

/-- The proof data: each input's buffer at its block, the result's at the quotient of the sums so far. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => k0_pay2 (sums m c t.val t.isLt)
  Φ t := PhiS m c t.val (Nat.le_of_lt_succ t.isLt)
  q _ := fullShare
  owed _ := 0

/-- What the launch finds in a window's array is that array's first contents. -/
theorem A_eq (c : Dev nD) (w : Fin cfg0.W) : (dats m 0 c).A w = V m c (Pipeline.arrRef spec0 w) := by dsimp only [dats]

/-- The state carried into a step, as the running sums before it. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a step leaves in the window of the scan point. -/
theorem after_0 (c : Dev nD) (t : Fin cfg0.N) : (dats m 0 c).after 0 t = blk0 m c t := by dsimp only [dats]
/-- What a step leaves in the window of the points. -/
theorem after_1 (c : Dev nD) (t : Fin cfg0.N) : (dats m 0 c).after 1 t = blk1 m c t := by dsimp only [dats]
/-- What a step leaves in the window of the colours. -/
theorem after_2 (c : Dev nD) (t : Fin cfg0.N) : (dats m 0 c).after 2 t = blk2 m c t := by dsimp only [dats]
/-- What a step leaves in the window of the coefficients. -/
theorem after_3 (c : Dev nD) (t : Fin cfg0.N) : (dats m 0 c).after 3 t = blk3 m c t := by dsimp only [dats]
/-- What a step leaves in the window of the opacities. -/
theorem after_4 (c : Dev nD) (t : Fin cfg0.N) : (dats m 0 c).after 4 t = blk4 m c t := by dsimp only [dats]
/-- What a step leaves in the window of the scales. -/
theorem after_5 (c : Dev nD) (t : Fin cfg0.N) : (dats m 0 c).after 5 t = blk5 m c t := by dsimp only [dats]
/-- What a step leaves in the window of the result. -/
theorem after_6 (c : Dev nD) (t : Fin cfg0.N) : (dats m 0 c).after 6 t = k0_pay2 (sums m c t.val t.isLt) := by dsimp only [dats]

/-- What a step finds in the window of the scan point. -/
theorem before_0 (c : Dev nD) (t : Fin cfg0.N) (d) : (dats m 0 c).before 0 t d = blk0 m c t :=
  before0_0_of m (dats m 0 c) (A_eq m c 0) (after_0 m c) t d
/-- What a step finds in the window of the points. -/
theorem before_1 (c : Dev nD) (t : Fin cfg0.N) (d) : (dats m 0 c).before 1 t d = win0_1.fill (grid0.coords t) d (iblk m c 1 t) := by
  unfold Dat.before; rw [if_pos (fetch0_1 t)]; rfl
/-- What a step finds in the window of the colours. -/
theorem before_2 (c : Dev nD) (t : Fin cfg0.N) (d) : (dats m 0 c).before 2 t d = win0_2.fill (grid0.coords t) d (iblk m c 2 t) := by
  unfold Dat.before; rw [if_pos (fetch0_2 t)]; rfl
/-- What a step finds in the window of the coefficients. -/
theorem before_3 (c : Dev nD) (t : Fin cfg0.N) (d) : (dats m 0 c).before 3 t d = win0_3.fill (grid0.coords t) d (iblk m c 3 t) := by
  unfold Dat.before; rw [if_pos (fetch0_3 t)]; rfl
/-- What a step finds in the window of the opacities. -/
theorem before_4 (c : Dev nD) (t : Fin cfg0.N) (d) : (dats m 0 c).before 4 t d = win0_4.fill (grid0.coords t) d (iblk m c 4 t) := by
  unfold Dat.before; rw [if_pos (fetch0_4 t)]; rfl
/-- What a step finds in the window of the scales. -/
theorem before_5 (c : Dev nD) (t : Fin cfg0.N) (d) : (dats m 0 c).before 5 t d = win0_5.fill (grid0.coords t) d (iblk m c 5 t) := by
  unfold Dat.before; rw [if_pos (fetch0_5 t)]; rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

/-- Holding what a step leaves in the window of the scan point. -/
theorem leaves_0 (c : Dev nD) (t : Fin cfg0.N) : (dats m 0 c).leaves 0 t = owns (c : Thread nD τ) (st0_0 t) fullShare (blk0 m c t) := by
  rw [← after_0]

/-- A buffer handed back at its block, whatever fills the part past the array's end. -/
theorem leaves_1 (c : Dev nD) (t : Fin cfg0.N) (d : Vec F S3x4096 .f32) :
    owns (c : Thread nD τ) (st0_1 t) fullShare (win0_1.fill (grid0.coords t) d (iblk m c 1 t)) ⊢ ((dats m 0 c).leaves 1 t : sProp 𝕄) := by
  show _ ⊢ iprop(∃ d, owns (c : Thread nD τ) (st0_1 t) fullShare (win0_1.fill (grid0.coords t) d (win0_1.cut (grid0.coords t) (blk1 m c t))))
  iintro H; iexists d; unfold blk1; rw [Window.cut_fill]; iexact H
/-- Holding what a step leaves in the window of the colours. -/
theorem leaves_2 (c : Dev nD) (t : Fin cfg0.N) (d : Vec F S1x4096 .f32) :
    owns (c : Thread nD τ) (st0_2 t) fullShare (win0_2.fill (grid0.coords t) d (iblk m c 2 t)) ⊢ ((dats m 0 c).leaves 2 t : sProp 𝕄) := by
  show _ ⊢ iprop(∃ d, owns (c : Thread nD τ) (st0_2 t) fullShare (win0_2.fill (grid0.coords t) d (win0_2.cut (grid0.coords t) (blk2 m c t))))
  iintro H; iexists d; unfold blk2; rw [Window.cut_fill]; iexact H
/-- Holding what a step leaves in the window of the coefficients. -/
theorem leaves_3 (c : Dev nD) (t : Fin cfg0.N) (d : Vec F S1x4096 .f32) :
    owns (c : Thread nD τ) (st0_3 t) fullShare (win0_3.fill (grid0.coords t) d (iblk m c 3 t)) ⊢ ((dats m 0 c).leaves 3 t : sProp 𝕄) := by
  show _ ⊢ iprop(∃ d, owns (c : Thread nD τ) (st0_3 t) fullShare (win0_3.fill (grid0.coords t) d (win0_3.cut (grid0.coords t) (blk3 m c t))))
  iintro H; iexists d; unfold blk3; rw [Window.cut_fill]; iexact H
/-- Holding what a step leaves in the window of the opacities. -/
theorem leaves_4 (c : Dev nD) (t : Fin cfg0.N) (d : Vec F S1x4096 .f32) :
    owns (c : Thread nD τ) (st0_4 t) fullShare (win0_4.fill (grid0.coords t) d (iblk m c 4 t)) ⊢ ((dats m 0 c).leaves 4 t : sProp 𝕄) := by
  show _ ⊢ iprop(∃ d, owns (c : Thread nD τ) (st0_4 t) fullShare (win0_4.fill (grid0.coords t) d (win0_4.cut (grid0.coords t) (blk4 m c t))))
  iintro H; iexists d; unfold blk4; rw [Window.cut_fill]; iexact H
/-- Holding what a step leaves in the window of the scales. -/
theorem leaves_5 (c : Dev nD) (t : Fin cfg0.N) (d : Vec F S1x4096 .f32) :
    owns (c : Thread nD τ) (st0_5 t) fullShare (win0_5.fill (grid0.coords t) d (iblk m c 5 t)) ⊢ ((dats m 0 c).leaves 5 t : sProp 𝕄) := by
  show _ ⊢ iprop(∃ d, owns (c : Thread nD τ) (st0_5 t) fullShare (win0_5.fill (grid0.coords t) d (win0_5.cut (grid0.coords t) (blk5 m c t))))
  iintro H; iexists d; unfold blk5; rw [Window.cut_fill]; iexact H

/-- The result's buffer is handed back as found before the last point, and at the quotient at the last point. -/
theorem leaves_6 (c : Dev nD) (t : Fin cfg0.N) (d : Vec F S512x1 .f32) :
    owns (c : Thread nD τ) (st0_6 t) fullShare (if last (grid0.coords t) then k0_pay2 (sums m c t.val t.isLt) else (dats m 0 c).before 6 t d)
      ⊢ ((dats m 0 c).leaves 6 t : sProp 𝕄) := by
  by_cases hl : last (grid0.coords t)
  · rw [if_pos hl]
    unfold Dat.leaves
    rw [live_last t hl, ← after_6]
  · rw [if_neg hl]
    unfold Dat.leaves
    rw [idle_last t hl, no_flush t hl]
    iintro H; iexists d; iexact H

/-- The sums a point leaves, from the sums it finds. -/
theorem sums_step (c : Dev nD) (t : Fin cfg0.N) (a : Vec F S512x128 .f32)
    (ha : ∀ h : t.val ≠ 0, a = sums m c (t.val - 1) (by have := t.isLt; omega)) :
    step (BitVec.ofNat 32 t.val) (blk0 m c t) (blk1 m c t) (blk2 m c t) (blk3 m c t) (blk4 m c t) (blk5 m c t)
        (if t.val = 0 then k0_pay3 else a) = sums m c t.val t.isLt := by
  obtain ⟨n, hn⟩ := t
  cases n with
  | zero => rw [if_pos rfl]; rfl
  | succ n => rw [if_neg (Nat.succ_ne_zero n), ha (Nat.succ_ne_zero n)]; rfl

/-- The invariant before a point: the sums at something, which past the first point is what the point before left. -/
theorem PhiS_open (c : Dev nD) (t : Fin cfg0.N) :
    (PhiS m c t.val (Nat.le_of_lt t.isLt) : sProp 𝕄)
      ⊢ iprop(∃ a, ⌜∀ h : t.val ≠ 0, a = sums m c (t.val - 1) (by have := t.isLt; omega)⌝
          ∗ owns (c : Thread nD τ) sumsBuf fullShare a ∗ (∃ r, prngReg c r)) := by
  obtain ⟨n, hn⟩ := t
  cases n with
  | zero =>
    show (Pipeline.ΦA spec0 c : sProp 𝕄) ⊢ _
    rw [PhiA_eq]
    iintro ⟨⟨%d, H⟩, Hg⟩
    iexists d
    isplitr
    · ipureintro; intro h; exact absurd rfl h
    isplitl [H]
    · iexact H
    iexact Hg
  | succ n =>
    show iprop(owns (c : Thread nD τ) sumsBuf fullShare (sums m c n _) ∗ (∃ r, prngReg c r)) ⊢ _
    iintro ⟨H, Hg⟩
    iexists (sums m c n (Nat.lt_of_succ_lt hn))
    isplitr
    · ipureintro; intro h; rfl
    isplitl [H]
    · iexact H
    iexact Hg

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = iprop(owns (c : Thread nD τ) sumsBuf fullShare (sums m c t.val t.isLt) ∗ (∃ r, prngReg c r)) from rfl,
    PhiS_castSucc, leaves_0]
  refine (Idealize.SL.BI.Laws.sep_mono (PhiS_open m c t) (Idealize.SL.BI.Entails.refl _)).trans ?_
  iintro ⟨⟨%a, %ha, HS, Hg⟩, HO, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ (blk0 m c t) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) ((dats m 0 c).before 6 t d6) a _ _)
  rw [sumsAfter_fill, sums_step m c t a ha]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]; · iexact HS
    iexact Hg
  isplitl [HO]; · iexact HO
  isplitl [H0]; · iexact H0
  isplitl [H1]
  · iapply (leaves_1 m c t d1); iexact H1
  isplitl [H2]
  · iapply (leaves_2 m c t d2); iexact H2
  isplitl [H3]
  · iapply (leaves_3 m c t d3); iexact H3
  isplitl [H4]
  · iapply (leaves_4 m c t d4); iexact H4
  isplitl [H5]
  · iapply (leaves_5 m c t d5); iexact H5
  iapply (leaves_6 m c t d6); iexact H6

/-- The program that a step runs is the body at that step. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

/-- The launch's state is the invariant before the first point. -/
theorem hin (c : Dev nD) : Pipeline.ΦA spec0 c ⊢ (dats m 0 c).Φ 0 := .rfl

/-- The invariant after a point, its sums forgotten. -/
theorem PhiS_forget (c : Dev nD) (n : ℕ) (h : n ≤ cfg0.N) (hn : n ≠ 0) : (PhiS m c n h : sProp 𝕄) ⊢ Pipeline.ΦA spec0 c := by
  cases n with
  | zero => exact absurd rfl hn
  | succ n =>
    rw [PhiA_eq]
    show iprop(owns (c : Thread nD τ) sumsBuf fullShare (sums m c n _) ∗ (∃ r, prngReg c r)) ⊢ _
    iintro ⟨H, Hg⟩
    isplitl [H]
    · iexists _; iexact H
    iexact Hg

/-- The invariant after the last point forgets the sums. -/
theorem hout (c : Dev nD) : (dats m 0 c).Φ (Fin.last cfg0.N) ⊢ Pipeline.ΦA spec0 c := by
  rw [show (dats m 0 c).Φ (Fin.last cfg0.N)
    = PhiS m c (Fin.last cfg0.N).val (Nat.le_of_lt_succ (Fin.last cfg0.N).isLt) from rfl]
  exact PhiS_forget m c _ _ (by rw [Fin.val_last]; have : cfg0.N = 49 := N_0; omega)

set_option backward.isDefEq.respectTransparency.types false in
set_option maxHeartbeats 800000 in
/-- Every run of the program ends, the arrays at what the proof data say and every counter at zero. -/
theorem run_main : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- What a run leaves at its end keeps the seven arguments. -/
theorem frame_post {r : PUnit × MemSt nD τ sig (Elt F)}
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_main_arg0 m (dats m) c), ((h c).1 0).trans (((dats m 0 c).arrAt_in 0 rfl _).trans ((A_eq m c 0).trans (V_main_arg1 m c))), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c), ((h c).2 main_arg4 (Pipeline.mem_restRefs_of main_arg4 (by decide) (by decide))).trans (W_main_arg4 m (dats m) c), ((h c).2 main_arg5 (Pipeline.mem_restRefs_of main_arg5 (by decide) (by decide))).trans (W_main_arg5 m (dats m) c), ((h c).2 main_arg6 (Pipeline.mem_restRefs_of main_arg6 (by decide) (by decide))).trans (W_main_arg6 m (dats m) c)⟩

/-- The frame of the kernel: every run ends with the seven arguments as launched and all counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨frame_post m h.1, h.2⟩) (run_main m ρ)

end Cert.Exact

end
-- ==== Proof.Plain.Line.lean ====
/- The reference as a straight line of operations, cut in two: the quantities of one Gaussian, then the histogram. -/
module

public import proofs.«01_k».proof.Proof.Gen.ReferenceIdeal
public import Idealize.ShloMosaic.Lib.StableHlo.Run
public import Idealize.ShloMosaic.Lib.StableHlo.RunHlo
public import Idealize.ShloMosaic.Lib.StableHlo.ReadAt
public import Idealize.ShloMosaic.Lib.Quiescent

@[expose] public section

noncomputable section

namespace Cert.Plain

open Cert.ReferenceIdeal Cert.ReferenceIdeal.Gen
open Idealize.ShloMosaic Idealize.ShloMosaic.TcCoe Idealize.SL.Sem Idealize.ShloMosaic.StableHlo

variable {F : FTy → Type} [FloatOps F]

/-- The first part: intensity, coefficient, distance and width of each Gaussian, and the bins' radii. -/
abbrev early : List (HloOp τ sig (Elt F)) :=
  [ nullary main_c (constantI S_ 32 0#32),
    nullary main_c_0 (constantI S_ 32 0#32),
    binary main_c main_c_0 main_v0 (cmpi .slt : (⟨S_, .i32⟩ : BufTy).Contents (Elt F) → (⟨S_, .i32⟩ : BufTy).Contents (Elt F) → (⟨S_, .i1⟩ : BufTy).Contents (Elt F)),
    nullary main_c_1 (constantI S_ 32 0#32),
    nullary main_c_2 (constantI S_ 32 200000#32),
    binary main_c_1 main_c_2 main_v1 (addi : (⟨S_, .i32⟩ : BufTy).Contents (Elt F) → (⟨S_, .i32⟩ : BufTy).Contents (Elt F) → (⟨S_, .i32⟩ : BufTy).Contents (Elt F)),
    nullary main_c_3 (constantI S_ 32 0#32),
    ternary main_v0 main_v1 main_c_3 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_4 (constantI S_ 32 0#32),
    binary main_arg6 main_c_4 main_v3 (cmpi .slt : (⟨S_, .i32⟩ : BufTy).Contents (Elt F) → (⟨S_, .i32⟩ : BufTy).Contents (Elt F) → (⟨S_, .i1⟩ : BufTy).Contents (Elt F)),
    nullary main_c_5 (constantI S_ 32 1#32),
    binary main_arg6 main_c_5 main_v4 (addi : (⟨S_, .i32⟩ : BufTy).Contents (Elt F) → (⟨S_, .i32⟩ : BufTy).Contents (Elt F) → (⟨S_, .i32⟩ : BufTy).Contents (Elt F)),
    ternary main_v3 main_v4 main_arg6 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v2, main_v5] ⟨S_, .i32⟩ main_v6 ((fun x i => Host.dynamicSlice S200000x1 x (fun k => (i k (Shape.Idx.first h_S_)).toInt) sliceFits_S200000x1_S200000x1) : (⟨S200000x1, .f32⟩ : BufTy).Contents (Elt F) → (Fin 2 → (⟨S_, .i32⟩ : BufTy).Contents (Elt F)) → (⟨S200000x1, .f32⟩ : BufTy).Contents (Elt F)),
    reshape main_v6 main_v7 (rfl : (.f32 : EltTy) = .f32) shapeCasts_S200000x1_S200000,
    binary main_v7 main_v7 main_v8 (mulf : (⟨S200000, .f32⟩ : BufTy).Contents (Elt F) → (⟨S200000, .f32⟩ : BufTy).Contents (Elt F) → (⟨S200000, .f32⟩ : BufTy).Contents (Elt F)),
    reshape main_arg2 main_v9 (rfl : (.f32 : EltTy) = .f32) shapeCasts_S200000x1_S200000,
    binary main_v9 main_v9 main_v10 (mulf : (⟨S200000, .f32⟩ : BufTy).Contents (Elt F) → (⟨S200000, .f32⟩ : BufTy).Contents (Elt F) → (⟨S200000, .f32⟩ : BufTy).Contents (Elt F)),
    binary main_v8 main_v10 main_v11 (mulf : (⟨S200000, .f32⟩ : BufTy).Contents (Elt F) → (⟨S200000, .f32⟩ : BufTy).Contents (Elt F) → (⟨S200000, .f32⟩ : BufTy).Contents (Elt F)),
    unary main_arg3 main_v12 (Host.negf : (⟨S200000x1, .f32⟩ : BufTy).Contents (Elt F) → (⟨S200000x1, .f32⟩ : BufTy).Contents (Elt F)),
    unary main_v12 main_v13 (Host.exp : (⟨S200000x1, .f32⟩ : BufTy).Contents (Elt F) → (⟨S200000x1, .f32⟩ : BufTy).Contents (Elt F)),
    nullary main_cst (constant S_ .f32 0x3F800000#32),
    unary main_cst main_v14 (broadcastInDim S200000x1 ![] bcast_S_S200000x1 : (⟨S_, .f32⟩ : BufTy).Contents (Elt F) → (⟨S200000x1, .f32⟩ : BufTy).Contents (Elt F)),
    binary main_v14 main_v13 main_v15 (addf : (⟨S200000x1, .f32⟩ : BufTy).Contents (Elt F) → (⟨S200000x1, .f32⟩ : BufTy).Contents (Elt F) → (⟨S200000x1, .f32⟩ : BufTy).Contents (Elt F)),
    nullary main_cst_6 (constant S_ .f32 0x3F800000#32),
    unary main_cst_6 main_v16 (broadcastInDim S200000x1 ![] bcast_S_S200000x1 : (⟨S_, .f32⟩ : BufTy).Contents (Elt F) → (⟨S200000x1, .f32⟩ : BufTy).Contents (Elt F)),
    binary main_v16 main_v15 main_v17 (Host.divf : (⟨S200000x1, .f32⟩ : BufTy).Contents (Elt F) → (⟨S200000x1, .f32⟩ : BufTy).Contents (Elt F) → (⟨S200000x1, .f32⟩ : BufTy).Contents (Elt F)),
    unary main_arg1 main_v18 (broadcastInDim S1x3 ![1] bcast_S3_S1x3_1 : (⟨S3, .f32⟩ : BufTy).Contents (Elt F) → (⟨S1x3, .f32⟩ : BufTy).Contents (Elt F)),
    unary main_v18 main_v19 (broadcastInDim S200000x3 ![0, 1] bcast_S1x3_S200000x3_0_1 : (⟨S1x3, .f32⟩ : BufTy).Contents (Elt F) → (⟨S200000x3, .f32⟩ : BufTy).Contents (Elt F)),
    binary main_arg0 main_v19 main_v20 (subf : (⟨S200000x3, .f32⟩ : BufTy).Contents (Elt F) → (⟨S200000x3, .f32⟩ : BufTy).Contents (Elt F) → (⟨S200000x3, .f32⟩ : BufTy).Contents (Elt F)),
    TRef.binary (TRef.of (T := ⟨S200000x3, .f32⟩) main_v20) (TRef.of (T := ⟨S200000x3, .f32⟩) main_v20) (TRef.of (T := ⟨S200000x3, .f32⟩) main_call0_v0) mulf,
    TRef.nullary (TRef.of (T := ⟨S_, .f32⟩) main_call0_cst) (constant S_ .f32 0x00000000#32),
    TRef.binary (TRef.of (T := ⟨S200000x3, .f32⟩) main_call0_v0) (TRef.of (T := ⟨S_, .f32⟩) main_call0_cst) (TRef.of (T := ⟨S200000, .f32⟩) main_call0_v1) (fun x v => Host.reduceAdd x v reducesTo_S200000x3_S200000_d1 h_S_),
    TRef.unary (TRef.of (T := ⟨S200000, .f32⟩) main_call0_v1) (TRef.of (T := ⟨S200000x1, .f32⟩) main_call0_v2) (broadcastInDim S200000x1 ![0] bcast_S200000_S200000x1_0),
    TRef.unary (TRef.of (T := ⟨S200000x1, .f32⟩) main_call0_v2) (TRef.of (T := ⟨S200000x1, .f32⟩) main_v21) Host.sqrt,
    nullary main_v22 (sitofp .f32 (iotaInDim S512 32 0)),
    nullary main_cst_7 (constant S_ .f32 0x3F800000#32),
    unary main_cst_7 main_v23 (broadcastInDim S512 ![] bcast_S_S512 : (⟨S_, .f32⟩ : BufTy).Contents (Elt F) → (⟨S512, .f32⟩ : BufTy).Contents (Elt F)),
    binary main_v23 main_v22 main_v24 (addf : (⟨S512, .f32⟩ : BufTy).Contents (Elt F) → (⟨S512, .f32⟩ : BufTy).Contents (Elt F) → (⟨S512, .f32⟩ : BufTy).Contents (Elt F)),
    nullary main_cst_8 (constant S_ .f32 0x3BA3D70A#32),
    unary main_cst_8 main_v25 (broadcastInDim S512 ![] bcast_S_S512 : (⟨S_, .f32⟩ : BufTy).Contents (Elt F) → (⟨S512, .f32⟩ : BufTy).Contents (Elt F)),
    binary main_v25 main_v24 main_v26 (mulf : (⟨S512, .f32⟩ : BufTy).Contents (Elt F) → (⟨S512, .f32⟩ : BufTy).Contents (Elt F) → (⟨S512, .f32⟩ : BufTy).Contents (Elt F)),
    nullary main_cst_9 (constant S_ .f32 0x00000000#32),
    unary main_cst_9 main_v27 (broadcastInDim S512 ![] bcast_S_S512 : (⟨S_, .f32⟩ : BufTy).Contents (Elt F) → (⟨S512, .f32⟩ : BufTy).Contents (Elt F)),
    binary main_v27 main_v26 main_v28 (addf : (⟨S512, .f32⟩ : BufTy).Contents (Elt F) → (⟨S512, .f32⟩ : BufTy).Contents (Elt F) → (⟨S512, .f32⟩ : BufTy).Contents (Elt F)),
    unary main_v28 main_v29 (broadcastInDim S1x512 ![1] bcast_S512_S1x512_1 : (⟨S512, .f32⟩ : BufTy).Contents (Elt F) → (⟨S1x512, .f32⟩ : BufTy).Contents (Elt F)),
    unary main_arg5 main_v30 (Host.exp : (⟨S200000x1, .f32⟩ : BufTy).Contents (Elt F) → (⟨S200000x1, .f32⟩ : BufTy).Contents (Elt F)),
    nullary main_cst_10 (constant S_ .f32 0x00000000#32),
    binary main_v30 main_cst_10 main_v31 ((fun x v => Host.reduceAdd x v reducesTo_S200000x1_S200000_d1 h_S_) : (⟨S200000x1, .f32⟩ : BufTy).Contents (Elt F) → (⟨S_, .f32⟩ : BufTy).Contents (Elt F) → (⟨S200000, .f32⟩ : BufTy).Contents (Elt F)),
    unary main_v31 main_v32 (broadcastInDim S200000x1 ![0] bcast_S200000_S200000x1_0 : (⟨S200000, .f32⟩ : BufTy).Contents (Elt F) → (⟨S200000x1, .f32⟩ : BufTy).Contents (Elt F)),
    nullary main_cst_11 (constant S_ .f32 0x3F800000#32),
    unary main_cst_11 main_v33 (broadcastInDim S200000x1 ![] bcast_S_S200000x1 : (⟨S_, .f32⟩ : BufTy).Contents (Elt F) → (⟨S200000x1, .f32⟩ : BufTy).Contents (Elt F)),
    binary main_v32 main_v33 main_v34 (Host.divf : (⟨S200000x1, .f32⟩ : BufTy).Contents (Elt F) → (⟨S200000x1, .f32⟩ : BufTy).Contents (Elt F) → (⟨S200000x1, .f32⟩ : BufTy).Contents (Elt F)),
    nullary main_cst_12 (constant S_ .f32 0x3BA3D70A#32),
    unary main_cst_12 main_v35 (broadcastInDim S200000x1 ![] bcast_S_S200000x1 : (⟨S_, .f32⟩ : BufTy).Contents (Elt F) → (⟨S200000x1, .f32⟩ : BufTy).Contents (Elt F)),
    binary main_v34 main_v35 main_v36 (maximumf : (⟨S200000x1, .f32⟩ : BufTy).Contents (Elt F) → (⟨S200000x1, .f32⟩ : BufTy).Contents (Elt F) → (⟨S200000x1, .f32⟩ : BufTy).Contents (Elt F)) ]

/-- The second part: the clipped densities, their sum over the Gaussians and the division by the squared radius. -/
abbrev late : List (HloOp τ sig (Elt F)) :=
  [ unary main_v29 main_v37 (broadcastInDim S200000x512 ![0, 1] bcast_S1x512_S200000x512_0_1 : (⟨S1x512, .f32⟩ : BufTy).Contents (Elt F) → (⟨S200000x512, .f32⟩ : BufTy).Contents (Elt F)),
    unary main_v21 main_v38 (broadcastInDim S200000x512 ![0, 1] bcast_S200000x1_S200000x512_0_1 : (⟨S200000x1, .f32⟩ : BufTy).Contents (Elt F) → (⟨S200000x512, .f32⟩ : BufTy).Contents (Elt F)),
    binary main_v37 main_v38 main_v39 (subf : (⟨S200000x512, .f32⟩ : BufTy).Contents (Elt F) → (⟨S200000x512, .f32⟩ : BufTy).Contents (Elt F) → (⟨S200000x512, .f32⟩ : BufTy).Contents (Elt F)),
    unary main_v36 main_v40 (broadcastInDim S200000x512 ![0, 1] bcast_S200000x1_S200000x512_0_1 : (⟨S200000x1, .f32⟩ : BufTy).Contents (Elt F) → (⟨S200000x512, .f32⟩ : BufTy).Contents (Elt F)),
    binary main_v39 main_v40 main_v41 (Host.divf : (⟨S200000x512, .f32⟩ : BufTy).Contents (Elt F) → (⟨S200000x512, .f32⟩ : BufTy).Contents (Elt F) → (⟨S200000x512, .f32⟩ : BufTy).Contents (Elt F)),
    binary main_v41 main_v41 main_v42 (mulf : (⟨S200000x512, .f32⟩ : BufTy).Contents (Elt F) → (⟨S200000x512, .f32⟩ : BufTy).Contents (Elt F) → (⟨S200000x512, .f32⟩ : BufTy).Contents (Elt F)),
    nullary main_cst_13 (constant S_ .f32 0xBF000000#32),
    unary main_cst_13 main_v43 (broadcastInDim S200000x512 ![] bcast_S_S200000x512 : (⟨S_, .f32⟩ : BufTy).Contents (Elt F) → (⟨S200000x512, .f32⟩ : BufTy).Contents (Elt F)),
    binary main_v43 main_v42 main_v44 (mulf : (⟨S200000x512, .f32⟩ : BufTy).Contents (Elt F) → (⟨S200000x512, .f32⟩ : BufTy).Contents (Elt F) → (⟨S200000x512, .f32⟩ : BufTy).Contents (Elt F)),
    unary main_v44 main_v45 (Host.exp : (⟨S200000x512, .f32⟩ : BufTy).Contents (Elt F) → (⟨S200000x512, .f32⟩ : BufTy).Contents (Elt F)),
    nullary main_cst_14 (constant S_ .f32 0x3ECC422A#32),
    unary main_cst_14 main_v46 (broadcastInDim S200000x512 ![] bcast_S_S200000x512 : (⟨S_, .f32⟩ : BufTy).Contents (Elt F) → (⟨S200000x512, .f32⟩ : BufTy).Contents (Elt F)),
    binary main_v46 main_v45 main_v47 (mulf : (⟨S200000x512, .f32⟩ : BufTy).Contents (Elt F) → (⟨S200000x512, .f32⟩ : BufTy).Contents (Elt F) → (⟨S200000x512, .f32⟩ : BufTy).Contents (Elt F)),
    unary main_v36 main_v48 (broadcastInDim S200000x512 ![0, 1] bcast_S200000x1_S200000x512_0_1 : (⟨S200000x1, .f32⟩ : BufTy).Contents (Elt F) → (⟨S200000x512, .f32⟩ : BufTy).Contents (Elt F)),
    binary main_v47 main_v48 main_v49 (Host.divf : (⟨S200000x512, .f32⟩ : BufTy).Contents (Elt F) → (⟨S200000x512, .f32⟩ : BufTy).Contents (Elt F) → (⟨S200000x512, .f32⟩ : BufTy).Contents (Elt F)),
    binary main_v39 main_v45 main_v50 (mulf : (⟨S200000x512, .f32⟩ : BufTy).Contents (Elt F) → (⟨S200000x512, .f32⟩ : BufTy).Contents (Elt F) → (⟨S200000x512, .f32⟩ : BufTy).Contents (Elt F)),
    binary main_v36 main_v36 main_v51 (mulf : (⟨S200000x1, .f32⟩ : BufTy).Contents (Elt F) → (⟨S200000x1, .f32⟩ : BufTy).Contents (Elt F) → (⟨S200000x1, .f32⟩ : BufTy).Contents (Elt F)),
    unary main_v51 main_v52 (broadcastInDim S200000x512 ![0, 1] bcast_S200000x1_S200000x512_0_1 : (⟨S200000x1, .f32⟩ : BufTy).Contents (Elt F) → (⟨S200000x512, .f32⟩ : BufTy).Contents (Elt F)),
    binary main_v50 main_v52 main_v53 (Host.divf : (⟨S200000x512, .f32⟩ : BufTy).Contents (Elt F) → (⟨S200000x512, .f32⟩ : BufTy).Contents (Elt F) → (⟨S200000x512, .f32⟩ : BufTy).Contents (Elt F)),
    unary main_v17 main_v54 (broadcastInDim S200000x512 ![0, 1] bcast_S200000x1_S200000x512_0_1 : (⟨S200000x1, .f32⟩ : BufTy).Contents (Elt F) → (⟨S200000x512, .f32⟩ : BufTy).Contents (Elt F)),
    binary main_v54 main_v49 main_v55 (mulf : (⟨S200000x512, .f32⟩ : BufTy).Contents (Elt F) → (⟨S200000x512, .f32⟩ : BufTy).Contents (Elt F) → (⟨S200000x512, .f32⟩ : BufTy).Contents (Elt F)),
    nullary main_cst_15 (constant S_ .f32 0x3F800000#32),
    unary main_cst_15 main_v56 (broadcastInDim S200000x1 ![] bcast_S_S200000x1 : (⟨S_, .f32⟩ : BufTy).Contents (Elt F) → (⟨S200000x1, .f32⟩ : BufTy).Contents (Elt F)),
    binary main_v56 main_v17 main_v57 (subf : (⟨S200000x1, .f32⟩ : BufTy).Contents (Elt F) → (⟨S200000x1, .f32⟩ : BufTy).Contents (Elt F) → (⟨S200000x1, .f32⟩ : BufTy).Contents (Elt F)),
    unary main_v57 main_v58 (broadcastInDim S200000x512 ![0, 1] bcast_S200000x1_S200000x512_0_1 : (⟨S200000x1, .f32⟩ : BufTy).Contents (Elt F) → (⟨S200000x512, .f32⟩ : BufTy).Contents (Elt F)),
    binary main_v58 main_v53 main_v59 (mulf : (⟨S200000x512, .f32⟩ : BufTy).Contents (Elt F) → (⟨S200000x512, .f32⟩ : BufTy).Contents (Elt F) → (⟨S200000x512, .f32⟩ : BufTy).Contents (Elt F)),
    binary main_v55 main_v59 main_v60 (addf : (⟨S200000x512, .f32⟩ : BufTy).Contents (Elt F) → (⟨S200000x512, .f32⟩ : BufTy).Contents (Elt F) → (⟨S200000x512, .f32⟩ : BufTy).Contents (Elt F)),
    nullary main_cst_16 (constant S_ .f32 0x3BA3D70A#32),
    unary main_cst_16 main_v61 (broadcastInDim S200000x512 ![] bcast_S_S200000x512 : (⟨S_, .f32⟩ : BufTy).Contents (Elt F) → (⟨S200000x512, .f32⟩ : BufTy).Contents (Elt F)),
    binary main_v60 main_v61 main_v62 (mulf : (⟨S200000x512, .f32⟩ : BufTy).Contents (Elt F) → (⟨S200000x512, .f32⟩ : BufTy).Contents (Elt F) → (⟨S200000x512, .f32⟩ : BufTy).Contents (Elt F)),
    nullary main_cst_17 (constant S_ .f32 0x00000000#32),
    nullary main_cst_18 (constant S_ .f32 0x3F800000#32),
    TRef.unary (TRef.of (T := ⟨S_, .f32⟩) main_cst_17) (TRef.of (T := ⟨S_, .f32⟩) main_call1_v0) id,
    TRef.unary (TRef.of (T := ⟨S_, .f32⟩) main_call1_v0) (TRef.of (T := ⟨S200000x512, .f32⟩) main_call1_v1) (broadcastInDim S200000x512 ![] bcast_S_S200000x512),
    TRef.binary (TRef.of (T := ⟨S200000x512, .f32⟩) main_call1_v1) (TRef.of (T := ⟨S200000x512, .f32⟩) main_v62) (TRef.of (T := ⟨S200000x512, .f32⟩) main_call1_v2) maximumf,
    TRef.unary (TRef.of (T := ⟨S_, .f32⟩) main_cst_18) (TRef.of (T := ⟨S_, .f32⟩) main_call1_v3) id,
    TRef.unary (TRef.of (T := ⟨S_, .f32⟩) main_call1_v3) (TRef.of (T := ⟨S200000x512, .f32⟩) main_call1_v4) (broadcastInDim S200000x512 ![] bcast_S_S200000x512),
    TRef.binary (TRef.of (T := ⟨S200000x512, .f32⟩) main_call1_v4) (TRef.of (T := ⟨S200000x512, .f32⟩) main_call1_v2) (TRef.of (T := ⟨S200000x512, .f32⟩) main_v63) minimumf,
    unary main_v11 main_v64 (broadcastInDim S200000x1 ![0] bcast_S200000_S200000x1_0 : (⟨S200000, .f32⟩ : BufTy).Contents (Elt F) → (⟨S200000x1, .f32⟩ : BufTy).Contents (Elt F)),
    unary main_v64 main_v65 (broadcastInDim S200000x512 ![0, 1] bcast_S200000x1_S200000x512_0_1 : (⟨S200000x1, .f32⟩ : BufTy).Contents (Elt F) → (⟨S200000x512, .f32⟩ : BufTy).Contents (Elt F)),
    binary main_v65 main_v63 main_v66 (mulf : (⟨S200000x512, .f32⟩ : BufTy).Contents (Elt F) → (⟨S200000x512, .f32⟩ : BufTy).Contents (Elt F) → (⟨S200000x512, .f32⟩ : BufTy).Contents (Elt F)),
    nullary main_cst_19 (constant S_ .f32 0x00000000#32),
    binary main_v66 main_cst_19 main_v67 ((fun x v => Host.reduceAdd x v reducesTo_S200000x512_S512_d0 h_S_) : (⟨S200000x512, .f32⟩ : BufTy).Contents (Elt F) → (⟨S_, .f32⟩ : BufTy).Contents (Elt F) → (⟨S512, .f32⟩ : BufTy).Contents (Elt F)),
    nullary main_cst_20 (constant S_ .f32 0x40000000#32),
    unary main_cst_20 main_v68 (broadcastInDim S512 ![] bcast_S_S512 : (⟨S_, .f32⟩ : BufTy).Contents (Elt F) → (⟨S512, .f32⟩ : BufTy).Contents (Elt F)),
    binary main_v28 main_v68 main_v69 (Host.powf : (⟨S512, .f32⟩ : BufTy).Contents (Elt F) → (⟨S512, .f32⟩ : BufTy).Contents (Elt F) → (⟨S512, .f32⟩ : BufTy).Contents (Elt F)),
    binary main_v67 main_v69 main_v70 (Host.divf : (⟨S512, .f32⟩ : BufTy).Contents (Elt F) → (⟨S512, .f32⟩ : BufTy).Contents (Elt F) → (⟨S512, .f32⟩ : BufTy).Contents (Elt F)) ]

set_option maxRecDepth 8192 in
set_option maxHeartbeats 4000000 in
/-- The reference is the two parts in order. -/
theorem main_line (c : Dev nD) : main (F := F) c = seq (early ++ late) := rfl

/-- No buffer of the reference is scoped. -/
theorem no_scoped_buffer : (Finset.univ.filter fun b : Ref sig .tc => b.isScoped) = ∅ := by decide

/-- No semaphore of the reference is scoped. -/
theorem no_scoped_semaphore : (Finset.univ.filter fun sm : SemLoc sig => sm.isScoped .tc) = ∅ := by decide

set_option maxRecDepth 8192 in
/-- The first part touches only buffers of the TensorCore. -/
theorem early_within : (early : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., unaryIndexed_bufs_sub .., reshape_bufs_sub .., binary_bufs_sub .., reshape_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub .., unary_bufs_sub .., binary_bufs_sub ..⟩

set_option maxRecDepth 8192 in
/-- So does the second part. -/
theorem late_within : (late : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., binary_bufs_sub ..⟩

/-- The reference's run: every buffer ends at what the two parts, run in order, leave in it. -/
theorem run_line (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (early ++ late) (launchContents m c) (Proc.devRef .tc b) :=
  run_seq no_scoped_buffer no_scoped_semaphore defs main (fun _ => early ++ late) main_line
    (fun _ => List.forall_append.2 ⟨early_within, late_within⟩) m ρ

end Cert.Plain

end
-- ==== Proof.Plain.Run.lean ====
/- The reference's run leaves its arguments and the counters as they were. -/
module

public import proofs.«01_k».proof.Proof.Plain.Line

@[expose] public section

noncomputable section

namespace Cert.Plain

open Cert.ReferenceIdeal Cert.ReferenceIdeal.Gen
open Idealize.ShloMosaic Idealize.ShloMosaic.TcCoe Idealize.SL.Sem Idealize.ShloMosaic.StableHlo

variable {F : FTy → Type} [FloatOps F]

/-- No operation writes argument 0. -/
theorem kept_0 (V : Valuation τ sig (Elt F)) :
    after (early ++ late) V (Proc.devRef .tc main_arg0) = V (Proc.devRef .tc main_arg0) := by
  after_reads_simp

/-- No operation writes argument 1. -/
theorem kept_1 (V : Valuation τ sig (Elt F)) :
    after (early ++ late) V (Proc.devRef .tc main_arg1) = V (Proc.devRef .tc main_arg1) := by
  after_reads_simp

/-- No operation writes argument 2. -/
theorem kept_2 (V : Valuation τ sig (Elt F)) :
    after (early ++ late) V (Proc.devRef .tc main_arg2) = V (Proc.devRef .tc main_arg2) := by
  after_reads_simp

/-- No operation writes argument 3. -/
theorem kept_3 (V : Valuation τ sig (Elt F)) :
    after (early ++ late) V (Proc.devRef .tc main_arg3) = V (Proc.devRef .tc main_arg3) := by
  after_reads_simp

/-- No operation writes argument 4. -/
theorem kept_4 (V : Valuation τ sig (Elt F)) :
    after (early ++ late) V (Proc.devRef .tc main_arg4) = V (Proc.devRef .tc main_arg4) := by
  after_reads_simp

/-- No operation writes argument 5. -/
theorem kept_5 (V : Valuation τ sig (Elt F)) :
    after (early ++ late) V (Proc.devRef .tc main_arg5) = V (Proc.devRef .tc main_arg5) := by
  after_reads_simp

/-- No operation writes argument 6. -/
theorem kept_6 (V : Valuation τ sig (Elt F)) :
    after (early ++ late) V (Proc.devRef .tc main_arg6) = V (Proc.devRef .tc main_arg6) := by
  after_reads_simp

/-- The reference leaves its seven arguments as they were and every semaphore counter at zero:
    it declares no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c =>
    ⟨(h c main_arg0).trans (kept_0 _), (h c main_arg1).trans (kept_1 _), (h c main_arg2).trans (kept_2 _),
      (h c main_arg3).trans (kept_3 _), (h c main_arg4).trans (kept_4 _), (h c main_arg5).trans (kept_5 _),
      (h c main_arg6).trans (kept_6 _)⟩, sem_eq_zero_of_no_sems (by decide) r.2⟩)
    (run_line m ρ)

end Cert.Plain

end
-- ==== Proof.Value.Density.lean ====
/- The equation of one term: the kernel's clipped amplitude is the reference's intensity times its clipped density. -/
module

public import Idealize.ShloMosaic.PureOps.Ideal
public import Idealize.ShloMosaic.PureOps.Ideal.Laws
public import Idealize.ShloMosaic.Lib.IdealHost

@[expose] public section

noncomputable section

namespace Cert.Value

open Idealize.ShloMosaic

/-! ## Over the reals -/

/-- A number times the Gaussian of it is at most one. -/
theorem mul_gauss_le (x : ℝ) : x * Real.exp (-(x * x) / 2) ≤ 1 := by
  have h1 : x ≤ Real.exp (x * x / 2) := by
    have := Real.add_one_le_exp (x * x / 2)
    nlinarith [sq_nonneg (x - 1)]
  have h2 : Real.exp (x * x / 2) * Real.exp (-(x * x) / 2) = 1 := by
    rw [← Real.exp_add, show x * x / 2 + -(x * x) / 2 = 0 by ring, Real.exp_zero]
  calc x * Real.exp (-(x * x) / 2) ≤ Real.exp (x * x / 2) * Real.exp (-(x * x) / 2) :=
        mul_le_mul_of_nonneg_right h1 (Real.exp_pos _).le
    _ = 1 := h2

/-- The power of two with the exponent scaled by -(1/2)/log 2 is the Gaussian. -/
theorem exp2_gauss (u i : ℝ) :
    Real.rpow 2 (u * u * ((-((1 / 2) * (Real.log 2)⁻¹)) * (i * i))) = Real.exp ((-(1 / 2)) * ((u * i) * (u * i))) := by
  have h2 : Real.log 2 ≠ 0 := (Real.log_pos (by norm_num)).ne'
  rw [Real.rpow_eq_pow, Real.rpow_def_of_pos (by norm_num)]
  congr 1
  field_simp

/-- The density times the bin's width is at most one. -/
theorem density_le {h k s u c : ℝ} (h0 : 0 < h) (k0 : 0 ≤ k) (k1 : k ≤ 1) (hs : h ≤ s) (c0 : 0 ≤ c) (c1 : c ≤ 1) :
    (c * (k * Real.exp ((-(1 / 2)) * ((u * s⁻¹) * (u * s⁻¹))) * s⁻¹)
      + (1 - c) * (u * Real.exp ((-(1 / 2)) * ((u * s⁻¹) * (u * s⁻¹))) * (s * s)⁻¹)) * h ≤ 1 := by
  have s0 : 0 < s := lt_of_lt_of_le h0 hs
  set e := Real.exp ((-(1 / 2)) * ((u * s⁻¹) * (u * s⁻¹))) with he
  have e0 : 0 < e := Real.exp_pos _
  have e1 : e ≤ 1 := Real.exp_le_one_iff.mpr (by nlinarith [mul_self_nonneg (u * s⁻¹)])
  have hg : (u * s⁻¹) * e ≤ 1 := by
    have := mul_gauss_le (u * s⁻¹)
    rwa [show -((u * s⁻¹) * (u * s⁻¹)) / 2 = (-(1 / 2)) * ((u * s⁻¹) * (u * s⁻¹)) by ring, ← he] at this
  have t0 : 0 < s⁻¹ * h := mul_pos (inv_pos.mpr s0) h0
  have t1 : s⁻¹ * h ≤ 1 := by rw [inv_mul_le_iff₀ s0]; linarith
  have a1 : k * e * (s⁻¹ * h) ≤ 1 := by
    have : k * e ≤ 1 := by nlinarith
    nlinarith [mul_nonneg k0 e0.le]
  have a2 : (u * s⁻¹) * e * (s⁻¹ * h) ≤ 1 := by nlinarith
  have : (c * (k * e * s⁻¹) + (1 - c) * (u * e * (s * s)⁻¹)) * h
      = c * (k * e * (s⁻¹ * h)) + (1 - c) * ((u * s⁻¹) * e * (s⁻¹ * h)) := by
    rw [mul_inv]; ring
  rw [this]
  nlinarith

/-- The equation over the reals. -/
theorem density_real {h k s u c I : ℝ} (h0 : 0 < h) (k0 : 0 ≤ k) (k1 : k ≤ 1) (hs : h ≤ s) (c0 : 0 ≤ c) (c1 : c ≤ 1) (I0 : 0 ≤ I) :
    max (Real.rpow 2 (u * u * ((-((1 / 2) * (Real.log 2)⁻¹)) * (s⁻¹ * s⁻¹)))
        * (I * h * c * k * s⁻¹ + I * h * (1 - c) * (s⁻¹ * s⁻¹) * u)) 0
      = I * min 1 (max 0 ((c * (k * Real.exp ((-(1 / 2)) * ((u * s⁻¹) * (u * s⁻¹))) * s⁻¹)
        + (1 - c) * (u * Real.exp ((-(1 / 2)) * ((u * s⁻¹) * (u * s⁻¹))) * (s * s)⁻¹)) * h)) := by
  rw [exp2_gauss, min_eq_right (max_le zero_le_one (density_le h0 k0 k1 hs c0 c1)), mul_max_of_nonneg _ _ I0, mul_zero, max_comm]
  congr 1
  rw [mul_inv]
  ring

/-! ## Over the extended reals -/

/-- A quotient of real numbers, the divisor not zero, is real. -/
theorem div_real {x y : ℝ} (hy : y ≠ 0) : Ideal.div (x : EReal) (y : EReal) = ((x * y⁻¹ : ℝ) : EReal) := by
  unfold Ideal.div
  rw [if_neg (by exact_mod_cast hy), ← EReal.coe_inv, ← EReal.coe_mul]

/-- A quotient by infinity is zero. -/
theorem div_top (x : EReal) : Ideal.div x ⊤ = 0 := by
  unfold Ideal.div
  rw [if_neg EReal.top_ne_zero, EReal.inv_top, mul_zero]

/-- The exponential of a real number is real. -/
theorem exp_real (x : ℝ) : Ideal.exp (x : EReal) = ((Real.exp x : ℝ) : EReal) := rfl
/-- The power of two of a real number is real. -/
theorem exp2_real (x : ℝ) : Ideal.exp2 (x : EReal) = ((Real.rpow 2 x : ℝ) : EReal) := rfl
/-- The exponential of minus infinity is zero. -/
theorem exp_bot : Ideal.exp ⊥ = 0 := rfl
/-- The power of two of minus infinity is zero. -/
theorem exp2_bot : Ideal.exp2 ⊥ = 0 := rfl

/-- The larger of two real numbers is real. -/
theorem max_real (x y : ℝ) : max (x : EReal) (y : EReal) = ((max x y : ℝ) : EReal) :=
  (EReal.coe_strictMono.monotone.map_max).symm
/-- The smaller of two real numbers is real. -/
theorem min_real (x y : ℝ) : min (x : EReal) (y : EReal) = ((min x y : ℝ) : EReal) :=
  (EReal.coe_strictMono.monotone.map_min).symm

/-- The kernel's term: `I` the intensity, `c` the share, `i` the reciprocal width, `u` the offset. -/
def kernelTerm (h k I c i u : EReal) : EReal :=
  max (Ideal.exp2 (u * u * (((-((1 / 2) * (Real.log 2)⁻¹) : ℝ) : EReal) * (i * i)))
    * (I * h * c * k * i + I * h * (1 - c) * (i * i) * u)) 0

/-- The reference's Gaussian of the offset `u` at width `s`. -/
def gauss (s u : EReal) : EReal := Ideal.exp (((-(1 / 2) : ℝ) : EReal) * (Ideal.div u s * Ideal.div u s))

/-- The reference's term: `s` the width. -/
def plainTerm (h k I c s u : EReal) : EReal :=
  I * min 1 (max 0 ((c * Ideal.div (k * gauss s u) s + (1 - c) * Ideal.div (u * gauss s u) (s * s)) * h))

/-- The equation of one term, at any width not below the bin's and any offset. -/
theorem term_eq {h k c I : ℝ} (h0 : 0 < h) (k0 : 0 ≤ k) (k1 : k ≤ 1) (c0 : 0 ≤ c) (c1 : c ≤ 1) (I0 : 0 ≤ I)
    {s : EReal} (hs : (h : EReal) ≤ s) (u : EReal) :
    kernelTerm h k I c (Ideal.div 1 s) u = plainTerm h k I c s u := by
  unfold kernelTerm plainTerm gauss
  induction s with
  | bot => exact absurd hs (by simp)
  | top =>
    simp only [div_top, mul_zero, EReal.top_mul_top, zero_mul, add_zero, max_self]
    simp
  | coe s =>
    have hs' : h ≤ s := by exact_mod_cast hs
    have s0 : 0 < s := lt_of_lt_of_le h0 hs'
    have i0 : 0 < s⁻¹ := inv_pos.mpr s0
    have q0 : (-((1 / 2) * (Real.log 2)⁻¹)) * (s⁻¹ * s⁻¹) < 0 := by
      have : 0 < (Real.log 2)⁻¹ := inv_pos.mpr (Real.log_pos (by norm_num))
      have := mul_pos i0 i0
      nlinarith [mul_pos ‹0 < (Real.log 2)⁻¹› this]
    have e1 : Ideal.div 1 (s : EReal) = ((s⁻¹ : ℝ) : EReal) := by
      rw [show (1 : EReal) = ((1 : ℝ) : EReal) from rfl, div_real s0.ne', one_mul]
    have zdiv : ∀ y : ℝ, y ≠ 0 → Ideal.div (0 : EReal) (y : EReal) = 0 := fun y hy => by
      rw [show (0 : EReal) = ((0 : ℝ) : EReal) from rfl, div_real hy, zero_mul]
    have far : ∀ v : EReal, (v = ⊤ ∨ v = ⊥) → v * v = ⊤ ∧ Ideal.div v s * Ideal.div v s = ⊤ := by
      intro v hv
      have hn : (s : EReal) ≠ 0 := by exact_mod_cast s0.ne'
      unfold Ideal.div
      rw [if_neg hn, ← EReal.coe_inv]
      rcases hv with rfl | rfl
      · rw [EReal.top_mul_coe_of_pos i0]; exact ⟨rfl, rfl⟩
      · rw [EReal.bot_mul_coe_of_pos i0]; exact ⟨rfl, rfl⟩
    have gone : ∀ v : EReal, (v = ⊤ ∨ v = ⊥) → max (Ideal.exp2 (v * v * (((-((1 / 2) * (Real.log 2)⁻¹) : ℝ) : EReal) * (Ideal.div 1 (s : EReal) * Ideal.div 1 (s : EReal))))
          * ((I : EReal) * h * c * k * Ideal.div 1 (s : EReal) + (I : EReal) * h * (1 - c) * (Ideal.div 1 (s : EReal) * Ideal.div 1 (s : EReal)) * v)) 0
        = (I : EReal) * min 1 (max 0 (((c : EReal) * Ideal.div (k * Ideal.exp (((-(1 / 2) : ℝ) : EReal) * (Ideal.div v s * Ideal.div v s))) s
          + (1 - c) * Ideal.div (v * Ideal.exp (((-(1 / 2) : ℝ) : EReal) * (Ideal.div v s * Ideal.div v s))) (s * s)) * h)) := by
      intro v hv
      rw [(far v hv).1, (far v hv).2, e1, ← EReal.coe_mul, ← EReal.coe_mul, EReal.top_mul_coe_of_neg q0, exp2_bot, zero_mul, max_self,
        EReal.coe_mul_top_of_neg (by norm_num), exp_bot, mul_zero, mul_zero, ← EReal.coe_mul, zdiv s s0.ne', zdiv (s * s) (mul_pos s0 s0).ne',
        mul_zero, mul_zero, add_zero, zero_mul, max_self]
      simp
    induction u with
    | bot => exact gone ⊥ (.inr rfl)
    | top => exact gone ⊤ (.inl rfl)
    | coe u =>
      have := density_real (u := u) h0 k0 k1 hs' c0 c1 I0
      simp only [e1, div_real s0.ne', ← EReal.coe_mul, exp_real, exp2_real, div_real (mul_pos s0 s0).ne',
        show (1 : EReal) = ((1 : ℝ) : EReal) from rfl, show (0 : EReal) = ((0 : ℝ) : EReal) from rfl, ← EReal.coe_sub, ← EReal.coe_add,
        max_real, min_real, one_mul]
      exact congrArg _ this

/-! ## The quantities of one Gaussian -/

/-- The share of the first density lies between zero and one. -/
theorem share_real (x : EReal) : ∃ c : ℝ, 0 ≤ c ∧ c ≤ 1 ∧ Ideal.div 1 (1 + Ideal.exp x) = (c : EReal) := by
  induction x with
  | bot =>
    refine ⟨1, zero_le_one, le_refl _, ?_⟩
    rw [exp_bot, add_zero, show (1 : EReal) = ((1 : ℝ) : EReal) from rfl, div_real one_ne_zero]
    norm_num
  | top =>
    refine ⟨0, le_refl _, zero_le_one, ?_⟩
    rw [show Ideal.exp ⊤ = ⊤ from rfl, show (1 : EReal) + ⊤ = ⊤ from rfl, div_top]; rfl
  | coe r =>
    have hp : 0 < 1 + Real.exp r := by have := Real.exp_pos r; linarith
    refine ⟨1 * (1 + Real.exp r)⁻¹, by positivity, ?_, ?_⟩
    · rw [one_mul]; exact inv_le_one_of_one_le₀ (by have := Real.exp_pos r; linarith)
    · rw [exp_real, show (1 : EReal) = ((1 : ℝ) : EReal) from rfl, ← EReal.coe_add, div_real hp.ne']

/-- A value below infinity in size is a real number. -/
theorem real_of_finite {x : EReal} (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

/-! ## The literals -/

/-- The bin's width, a real number between zero and one. -/
theorem width_lit : ∃ h : ℝ, 0 < h ∧ Ideal.ofBits .f32 0x3BA3D70A#32 = (h : EReal) := by
  refine ⟨10737418 / 2147483648, by norm_num, ?_⟩
  simp [Ideal.ofBits, Ideal.ieee, -EReal.coe_mul]
  norm_num

/-- The first density's constant, a real number between zero and one. -/
theorem peak_lit : ∃ k : ℝ, 0 ≤ k ∧ k ≤ 1 ∧ Ideal.ofBits .f32 0x3ECC422A#32 = (k : EReal) := by
  refine ⟨13386282 / 33554432, by norm_num, by norm_num, ?_⟩
  simp [Ideal.ofBits, Ideal.ieee, -EReal.coe_mul]
  norm_num

/-- The word of minus one half. -/
theorem neg_half_lit : Ideal.ofBits .f32 0xBF000000#32 = ((-(1 / 2) : ℝ) : EReal) := by
  simp [Ideal.ofBits, Ideal.ieee, -EReal.coe_mul, -EReal.coe_neg]
  norm_num

/-- The word of two. -/
theorem two_lit : Ideal.ofBits .f32 0x40000000#32 = ((2 : ℝ) : EReal) := by
  simp [Ideal.ofBits, Ideal.ieee, -EReal.coe_mul]
  norm_num

/-- The word of infinity. -/
theorem top_lit : Ideal.ofBits .f32 0x7F800000#32 = ⊤ := by
  simp [Ideal.ofBits, Ideal.ieee]

end Cert.Value

end
-- ==== Proof.Value.Result.lean ====
/- The histogram both programs compute, as a function of the arrays' elements: the reference's own formula. -/
module

public import proofs.«01_k».proof.Proof.Value.Density

@[expose] public section

noncomputable section

namespace Cert.Value

open Idealize.ShloMosaic

/-- The bin's width, the peak density and the exponent's factor are the words the programs carry. -/
abbrev width : EReal := Ideal.ofBits .f32 0x3BA3D70A#32
abbrev peak : EReal := Ideal.ofBits .f32 0x3ECC422A#32

/-- Bin `b`'s radius. -/
def radius (b : Fin 512) : EReal := width * (1 + (FloatOps.sitofp .f32 (BitVec.ofNat 32 b.val) : Ideal .f32))

/-- The arrays' elements: the points, the scan point, and each column's colour, coefficient, opacity and scale. -/
structure Data where
  point : Fin 200000 → Fin 3 → EReal
  scan : Fin 3 → EReal
  colour : Fin 200000 → EReal
  coef : Fin 200000 → EReal
  opac : Fin 200000 → EReal
  scale : Fin 200000 → EReal

namespace Data
variable (D : Data) (n : Fin 200000)

/-- The distance of point `n` from the scan point. -/
def dist : EReal := Ideal.sqrt (∑ x : Fin 3, (D.point n x - D.scan x) * (D.point n x - D.scan x))
/-- The width of column `n`'s density. -/
def sigma : EReal := max (Ideal.exp (D.scale n)) width
/-- The share of the first density. -/
def share : EReal := Ideal.div 1 (1 + Ideal.exp (-D.coef n))
/-- The intensity of column `n`. -/
def intensity : EReal := D.opac n * D.opac n * (D.colour n * D.colour n)
/-- What column `n` adds to bin `b`. -/
def term (b : Fin 512) : EReal := plainTerm width peak (D.intensity n) (D.share n) (D.sigma n) (radius b - D.dist n)
/-- The histogram at bin `b`. -/
def result (b : Fin 512) : EReal := Ideal.div (∑ n : Fin 200000, D.term n b) (radius b * radius b)

end Data

/-- A quotient by one is the number itself. -/
theorem over_one (x : EReal) : Ideal.div x 1 = x := by
  have e : (1 : EReal) = ((1 : ℝ) : EReal) := rfl
  rw [e, Ideal.div_coe one_ne_zero, _root_.div_one]
  exact mul_one x

/-- A radius is a real number. -/
theorem radius_real (b : Fin 512) : ∃ r : ℝ, radius b = (r : EReal) := by
  obtain ⟨h, _, hh⟩ := width_lit
  have e : (FloatOps.sitofp .f32 (BitVec.ofNat 32 b.val) : Ideal .f32) = (((BitVec.ofNat 32 b.val).toInt : ℝ) : EReal) := rfl
  refine ⟨h * (1 + ((BitVec.ofNat 32 b.val).toInt : ℝ)), ?_⟩
  unfold radius width
  rw [hh, e, EReal.coe_mul, EReal.coe_add]
  rfl

/-- The square of a real number as the reference writes it. -/
theorem pow_two_real (x : ℝ) : Ideal.pow (x : EReal) (Ideal.ofBits .f32 0x40000000#32) = (x : EReal) * (x : EReal) := by
  rw [two_lit]
  show ((Real.rpow x 2 : ℝ) : EReal) = _
  rw [Real.rpow_eq_pow, Real.rpow_two, sq, EReal.coe_mul]

end Cert.Value

end
-- ==== Proof.Value.Lane.lean ====
/- The terms the body adds to the running sums, as extended reals: one column's term in one bin. -/
module

public import proofs.«01_k».proof.Proof.Exact.Column
public import proofs.«01_k».proof.Proof.Value.Result
public import Idealize.ShloMosaic.Lib.Pipeline.Value

@[expose] public section

noncomputable section

namespace Cert.Value

open Cert.KernelIdeal Cert.KernelIdeal.Gen Cert.Exact
open Idealize.ShloMosaic Idealize.ShloMosaic.ValueIdx

/-- The constant the exponent carries. -/
theorem scale_const : (Named.named κ "neg_half_log2e" 0xBF38AA3B#32 : Ideal .f32) = ((-((1 / 2) * (Real.log 2)⁻¹) : ℝ) : EReal) :=
  (IdealRules.named_const.statement κ "neg_half_log2e" .f32 0xBF38AA3B#32 ((-((1 / 2) * (Real.log 2)⁻¹) : ℝ) : EReal) rfl).2.2

/-- What a lane adds to a bin, from its four rows' elements. -/
def laneTerm (r d p0 p1 w : EReal) : EReal := max (Ideal.exp2 ((r - d) * (r - d) * w) * (p0 + p1 * (r - d))) 0

/-- What one column adds to a bin of radius `r`. -/
def colTerm (r : EReal) (q : Col Ideal) (s0 s1 s2 : EReal) : EReal :=
  laneTerm r (q.dist s0 s1 s2) q.amp0 q.amp1 q.quad

/-- A masked lane adds nothing. -/
theorem laneTerm_zero (r : EReal) : laneTerm r 0 0 0 0 = 0 := by
  unfold laneTerm
  rw [mul_zero, zero_mul, add_zero, mul_zero, max_self]

/-- A lane of a run of a row. -/
theorem lanes_apply (v : FVec Ideal S1x1024 .f32) (k : Fin 8) (b : Fin 512) (l : Fin 128) :
    lanes v k (ix2 b l) = v (ix2 0 (⟨128 * k.val + l.val, by omega⟩ : Fin 1024)) := by
  unfold lanes
  rw [broadcastTo_apply _ _ _ (ix2 (0 : Fin 1) l) (fun a => by match a with | ⟨0, _⟩ => rfl | ⟨1, _⟩ => rfl),
    extractStridedSlice_apply _ _ _ _ (ix2 (0 : Fin 1) (⟨128 * k.val + l.val, by omega⟩ : Fin 1024))
      (fun a => by match a with | ⟨0, _⟩ => rfl | ⟨1, _⟩ => rfl)]

/-- The bin's radius, as the kernel counts it: the bin's number is one up before the change to a float. -/
theorem radius_word (b : Fin 512) :
    (FloatOps.sitofp .f32 (IntOp.addi (BitVec.ofNat 32 b.val) (BitVec.ofNat 32 1)) : Ideal .f32) * width
      + Ideal.ofBits .f32 0x00000000#32 = radius b := by
  have e : ∀ n : ℕ, n < 2 ^ 31 → (FloatOps.sitofp .f32 (BitVec.ofNat 32 n) : Ideal .f32) = (((n : ℤ) : ℝ) : EReal) := by
    intro n hn
    show (((BitVec.ofNat 32 n).toInt : ℝ) : EReal) = _
    rw [WordCmp.toInt_ofNat_of_lt hn]
  have hb := b.isLt
  unfold radius
  rw [WordCmp.addi_ofNat, e _ (by omega), e _ (by omega), Ideal.ofBits_zero_f32, add_zero, mul_comm,
    ← EReal.coe_one, ← EReal.coe_add]
  congr 2
  push_cast
  ring

/-- Every lane of the kernel's radii holds its bin's radius. -/
theorem radius_lane (b : Fin 512) (l : Fin 128) : (k0_pay4 (F := Ideal)) (ix2 b l) = radius b := by
  rw [← radius_word]
  have e : iota .tc S512x128 32 [0] iota_S512x128_d0_w32 (ix2 b l) = BitVec.ofNat 32 b.val := by rw [iota_single_apply]
  rw [← e]
  rfl

/-- A run adds each lane's term. -/
theorem chunk_apply (R : Rows Ideal) (k : Fin 8) (a : FVec Ideal S512x128 .f32) (b : Fin 512) (l : Fin 128) :
    chunk R k a (ix2 b l) = a (ix2 b l) + laneTerm (radius b)
      (R.dist (ix2 0 (⟨128 * k.val + l.val, by omega⟩ : Fin 1024))) (R.amp0 (ix2 0 (⟨128 * k.val + l.val, by omega⟩ : Fin 1024)))
      (R.amp1 (ix2 0 (⟨128 * k.val + l.val, by omega⟩ : Fin 1024))) (R.quad (ix2 0 (⟨128 * k.val + l.val, by omega⟩ : Fin 1024))) := by
  rw [← lanes_apply R.dist, ← lanes_apply R.amp0, ← lanes_apply R.amp1, ← lanes_apply R.quad, ← radius_lane b l]
  unfold laneTerm
  rw [← Ideal.ofBits_zero_f32]
  rfl

end Cert.Value

end
-- ==== Proof.Value.Total.lean ====
/- The running sums, element by element: at a bin and a lane they hold the terms of the columns that lane has met. -/
module

public import proofs.«01_k».proof.Proof.Exact.Sums
public import proofs.«01_k».proof.Proof.Value.Lane
public import Idealize.ShloMosaic.PureOps.Ideal.Laws

@[expose] public section

noncomputable section

namespace Cert.Value

open Cert.KernelIdeal Cert.KernelIdeal.Gen Cert.Exact
open Idealize.ShloMosaic Idealize.ShloMosaic.ValueIdx

section Step

variable (j : ℕ) (hj : j < 49) (x0 : Vec Ideal S3 .f32) (x1 : Vec Ideal S3x4096 .f32) (x2 x3 x4 x5 : Vec Ideal S1x4096 .f32)
variable (b : Fin 512)

/-- What place `n` of a point's blocks adds to the bin: nothing past the arrays' end. -/
def placeTerm (n : Fin 4096) : EReal :=
  if j * 4096 + n.val < 200000 then colTerm (radius b) (column x1 x2 x3 x4 x5 n) (scanAt x0 0) (scanAt x0 1) (scanAt x0 2) else 0

include hj in
/-- A lane of a group adds its place's term. -/
theorem lane_of_rows (g : Fin 4) (l : Fin 1024) :
    laneTerm (radius b) ((rows (BitVec.ofNat 32 j) g x0 x1 x2 x3 x4 x5).dist (ix2 0 l))
        ((rows (BitVec.ofNat 32 j) g x0 x1 x2 x3 x4 x5).amp0 (ix2 0 l)) ((rows (BitVec.ofNat 32 j) g x0 x1 x2 x3 x4 x5).amp1 (ix2 0 l))
        ((rows (BitVec.ofNat 32 j) g x0 x1 x2 x3 x4 x5).quad (ix2 0 l))
      = placeTerm j x0 x1 x2 x3 x4 x5 b (place g l) := by
  have z : (Col.lit 0x00000000#32 : Ideal .f32) = 0 := Ideal.ofBits_zero_f32
  rw [rows_dist, rows_amp0, rows_amp1, rows_quad, valid_apply j hj, z]
  unfold placeTerm
  rw [place_val, ← Nat.add_assoc]
  split
  · rfl
  · exact laneTerm_zero _

variable {x0 x1 x2 x3 x4 x5 b}
variable {f : ℕ → EReal} (hf : ∀ n : Fin 4096, placeTerm j x0 x1 x2 x3 x4 x5 b n = f (4096 * j + n.val))
variable (a : FVec Ideal S512x128 .f32) (l : Fin 128)

include hj hf in
/-- A chunk adds the terms of its 128 places. -/
theorem chunk_rows (g : Fin 4) (k : Fin 8) :
    chunk (rows (BitVec.ofNat 32 j) g x0 x1 x2 x3 x4 x5) k a (ix2 b l)
      = a (ix2 b l) + f (4096 * j + (1024 * g.val + (128 * k.val + l.val))) := by
  rw [chunk_apply, lane_of_rows j hj, hf, place_val]

include hj hf in
/-- A group adds the terms of its 1024 places. -/
theorem group_rows (g : Fin 4) :
    group (rows (BitVec.ofNat 32 j) g x0 x1 x2 x3 x4 x5) a (ix2 b l)
      = a (ix2 b l) + ∑ k ∈ Finset.range 8, f (4096 * j + (1024 * g.val + (128 * k + l.val))) := by
  unfold group
  simp only [chunk_rows j hj hf, Finset.sum_range_succ, Finset.sum_range_zero, add_assoc, zero_add]
  rfl

include hj hf in
/-- A point adds the terms of its places in the lane. -/
theorem step_apply :
    step (BitVec.ofNat 32 j) x0 x1 x2 x3 x4 x5 a (ix2 b l)
      = a (ix2 b l) + ∑ g ∈ Finset.range 4, ∑ k ∈ Finset.range 8, f (4096 * j + (1024 * g + (128 * k + l.val))) := by
  unfold step
  rw [shapeCast_self, group_rows j hj hf, group_rows j hj hf, group_rows j hj hf, group_rows j hj hf]
  simp only [Finset.sum_range_succ _ 3, Finset.sum_range_succ _ 2, Finset.sum_range_succ _ 1, Finset.sum_range_succ _ 0,
    Finset.sum_range_zero, zero_add, add_assoc]
  rfl

end Step

/-- A sum over pairs is the sum over the numbers they count. -/
theorem sum_pairs (f : ℕ → EReal) (p q : ℕ) :
    ∑ i ∈ Finset.range p, ∑ j ∈ Finset.range q, f (q * i + j) = ∑ n ∈ Finset.range (q * p), f n := by
  induction p with
  | zero => simp
  | succ p ih => rw [Finset.sum_range_succ, ih, Nat.mul_succ, Finset.sum_range_add]

/-- All the lanes' terms are the terms of all the numbers below the padded length. -/
theorem sum_places (f : ℕ → EReal) :
    ∑ l : Fin 128, ∑ j ∈ Finset.range 49, ∑ g ∈ Finset.range 4, ∑ k ∈ Finset.range 8, f (4096 * j + (1024 * g + (128 * k + l.val)))
      = ∑ n ∈ Finset.range 200704, f n := by
  rw [Finset.sum_comm]
  rw [← sum_pairs f 49 4096]
  refine Finset.sum_congr rfl fun j _ => ?_
  rw [Finset.sum_comm, ← sum_pairs (fun n => f (4096 * j + n)) 4 1024]
  refine Finset.sum_congr rfl fun g _ => ?_
  rw [Finset.sum_comm, ← sum_pairs (fun n => f (4096 * j + (1024 * g + n))) 8 128]
  refine Finset.sum_congr rfl fun k _ => ?_
  exact Fin.sum_univ_eq_sum_range (fun n => f (4096 * j + (1024 * g + (128 * k + n)))) 128

/-- Terms past the arrays' end are zero. -/
theorem sum_padded (f : ℕ → EReal) (h : ∀ n, 200000 ≤ n → f n = 0) :
    ∑ n ∈ Finset.range 200704, f n = ∑ n : Fin 200000, f n.val := by
  rw [show 200704 = 200000 + 704 from rfl, Finset.sum_range_add,
    Finset.sum_eq_zero (fun n _ => h (200000 + n) (Nat.le_add_right _ _)), add_zero, ← Fin.sum_univ_eq_sum_range]

variable (m : (ℓ : Loc nD τ sig) → Buf (Elt Ideal) ℓ) (c : Dev nD) (b : Fin 512) (f : ℕ → EReal)

/-- The running sums after point `n`. -/
theorem sums_apply
    (hf : ∀ (t : Fin cfg0.N) (n : Fin 4096), placeTerm t.val (blk0 m c t) (blk1 m c t) (blk2 m c t) (blk3 m c t) (blk4 m c t)
      (blk5 m c t) b n = f (4096 * t.val + n.val))
    (l : Fin 128) (n : ℕ) (h : n < cfg0.N) : sums m c n h (ix2 b l) = ∑ j ∈ Finset.range (n + 1),
        ∑ g ∈ Finset.range 4, ∑ k ∈ Finset.range 8, f (4096 * j + (1024 * g + (128 * k + l.val))) := by
  induction n with
  | zero =>
    have z : (k0_pay3 (F := Ideal)) (ix2 b l) = 0 := Ideal.ofBits_zero_f32
    unfold sums
    rw [step_apply 0 (lt_grid ⟨0, h⟩) (hf ⟨0, h⟩), z, zero_add, Finset.sum_range_one]
  | succ n ih =>
    unfold sums
    rw [step_apply (n + 1) (lt_grid ⟨n + 1, h⟩) (hf ⟨n + 1, h⟩), ih, Finset.sum_range_succ _ (n + 1)]

/-- The sum of the terms over the lanes, after the last point. -/
theorem sums_total
    (hf : ∀ (t : Fin cfg0.N) (n : Fin 4096), placeTerm t.val (blk0 m c t) (blk1 m c t) (blk2 m c t) (blk3 m c t) (blk4 m c t)
      (blk5 m c t) b n = f (4096 * t.val + n.val))
    (h0 : ∀ n, 200000 ≤ n → f n = 0) (h : 48 < cfg0.N) :
    ∑ l : Fin 128, sums m c 48 h (ix2 b l) = ∑ n : Fin 200000, f n.val := by
  rw [← sum_padded f h0, ← sum_places]
  exact Finset.sum_congr rfl fun l _ => sums_apply m c b f hf l 48 h

/-- The sum over the lanes, as the last point takes it. -/
theorem lane_sum (a : Vec Ideal S512x128 .f32) :
    shapeCast S512x1 (multiReduction (F := Ideal) .add [1] S512 a 0x00000000#32 reduces_S512x128_S512 (.inl rfl) rfl)
        shapeCasts_S512_S512x1 (ix2 b 0)
      = ∑ l : Fin 128, (a (ix2 b l) : EReal) := by
  rw [shapeCast_apply _ _ (ix2 b (0 : Fin 1)) (ix1 b) (by rw [Shape.rowMajor_val_two, Shape.rowMajor_val_one]; show b.val = b.val * 1 + 0; omega)]
  refine (Ideal.multiReduction_add_single a _ reduces_S512x128_S512 _ _ (ix1 b)).trans ?_
  refine Finset.sum_congr rfl fun l _ => congrArg a ?_
  funext x
  match x with
  | ⟨0, _⟩ => rfl
  | ⟨1, _⟩ => rfl

/-- What the last point writes: the sum over the lanes over the square of the radius. -/
theorem quotient_apply (a : Vec Ideal S512x128 .f32) :
    k0_pay2 a (ix2 b 0) = Ideal.div (∑ l : Fin 128, (a (ix2 b l) : EReal)) (radius b * radius b) := by
  have e : iota .tc S512x1 32 [0] iota_S512x1_d0_w32 (ix2 b (0 : Fin 1)) = BitVec.ofNat 32 b.val := by rw [iota_single_apply]
  rw [← radius_word, ← e, ← lane_sum b a]
  rfl

end Cert.Value

end
-- ==== Proof.Value.Blocks.lean ====
/- The blocks the points read, as elements of the launched arrays. -/
module

public import proofs.«01_k».proof.Proof.Exact.Sums
public import Idealize.ShloMosaic.Lib.Pipeline.ValueKit.Geometry
public import Idealize.ShloMosaic.Lib.StableHlo.RunRead

@[expose] public section

noncomputable section

namespace Cert.Value

open Cert.KernelIdeal Cert.KernelIdeal.Gen Cert.Exact
open Idealize.ShloMosaic Idealize.ShloMosaic.TcCoe Idealize.ShloMosaic.ValueIdx Idealize.ShloMosaic.StableHlo

variable {F : FTy → Type} [FloatOps F] [Named F]
variable (m : (ℓ : Loc nD τ sig) → Buf (Elt F) ℓ) (c : Dev nD) (t : Fin cfg0.N) (n : Fin 4096) (h : t.val * 4096 + n.val < 200000)

/-- The place of a block's column in the whole array. -/
def whole : Fin 200000 := ⟨t.val * 4096 + n.val, h⟩

/-! ## The arrays the points read -/

/-- The means, transposed. -/
theorem V_means (r : Fin 3) (N : Fin 200000) : V m c main_v0 (ix2 r N) = m ((c.tc : Thread nD τ).loc main_arg0) (ix2 N r) := by
  have e : V m c main_v0 = transpose S3x200000 [1, 0] (m ((c.tc : Thread nD τ).loc main_arg0)) transposes_S200000x3_S3x200000_1_0 := by
    unfold V V0
    simp only [List.flatten_cons, List.flatten_nil, List.append_nil]
    after_reads_simp
  rw [e, transpose_apply _ _ _ (ix2 r N) (ix2 N r) (fun b => match b with | ⟨0, _⟩ => rfl | ⟨1, _⟩ => rfl)]

/-- A column laid out as a row. -/
theorem row_apply {α : Type} (x : S200000x1.Idx → α) (N : Fin 200000) :
    shapeCast S1x200000 x shapeCasts_S200000x1_S1x200000 (ix2 0 N) = x (ix2 N 0) := by
  rw [shapeCast_apply _ _ (ix2 (0 : Fin 1) N) (ix2 N (0 : Fin 1)) (by
    rw [Shape.rowMajor_val_two, Shape.rowMajor_val_two]; show N.val * 1 + 0 = 0 * 200000 + N.val; omega)]

/-- The colours. -/
theorem V_colours (N : Fin 200000) : V m c main_v1 (ix2 0 N) = m ((c.tc : Thread nD τ).loc main_arg2) (ix2 N 0) := by
  have e : V m c main_v1 = shapeCast S1x200000 (m ((c.tc : Thread nD τ).loc main_arg2)) shapeCasts_S200000x1_S1x200000 := by
    unfold V V0
    simp only [List.flatten_cons, List.flatten_nil, List.append_nil]
    after_reads_simp
    rfl
  rw [e, row_apply]

/-- The coefficients. -/
theorem V_coefficients (N : Fin 200000) : V m c main_v2 (ix2 0 N) = m ((c.tc : Thread nD τ).loc main_arg3) (ix2 N 0) := by
  have e : V m c main_v2 = shapeCast S1x200000 (m ((c.tc : Thread nD τ).loc main_arg3)) shapeCasts_S200000x1_S1x200000 := by
    unfold V V0
    simp only [List.flatten_cons, List.flatten_nil, List.append_nil]
    after_reads_simp
    rfl
  rw [e, row_apply]

/-- The opacities. -/
theorem V_opacities (N : Fin 200000) : V m c main_v4 (ix2 0 N) = m ((c.tc : Thread nD τ).loc main_arg4) (ix2 N 0) := by
  have e : V m c main_v4 = shapeCast S1x200000 (m ((c.tc : Thread nD τ).loc main_arg4)) shapeCasts_S200000x1_S1x200000 := by
    unfold V V0
    simp only [List.flatten_cons, List.flatten_nil, List.append_nil]
    after_reads_simp
    rfl
  rw [e, row_apply]

/-- The scales. -/
theorem V_scales (N : Fin 200000) : V m c main_v3 (ix2 0 N) = m ((c.tc : Thread nD τ).loc main_arg5) (ix2 N 0) := by
  have e : V m c main_v3 = shapeCast S1x200000 (m ((c.tc : Thread nD τ).loc main_arg5)) shapeCasts_S200000x1_S1x200000 := by
    unfold V V0
    simp only [List.flatten_cons, List.flatten_nil, List.append_nil]
    after_reads_simp
    rfl
  rw [e, row_apply]

/-! ## A column of a point's blocks -/

/-- The scan point. -/
theorem scan_at (k : Fin 3) : scanAt (blk0 m c t) k = m ((c.tc : Thread nD τ).loc main_arg1) (ix1 k) := by
  rw [← V_main_arg1 m c]
  unfold scanAt blk0 iblk
  refine congrArg (V m c main_arg1) (funext fun a => Fin.ext ?_)
  match a with
  | ⟨0, _⟩ =>
    blk_simp
    show win0_0.index t 0 * 3 + (k.val + 1 * 0) = k.val
    rw [show win0_0.index t 0 = 0 from rfl]; omega

/-- Coordinate `r` of a column's point. -/
theorem means_at (r : Fin 3) : blk1 m c t (ix2 r n) = m ((c.tc : Thread nD τ).loc main_arg0) (ix2 (whole t n h) r) := by
  rw [← V_means m c]
  unfold blk1 Pipeline.Window.fill
  rw [dif_pos (moved_means t r n h)]
  unfold iblk
  refine congrArg (V m c main_v0) (funext fun a => Fin.ext ?_)
  match a with
  | ⟨0, _⟩ =>
    blk_simp
    show win0_1.index t 0 * 3 + r.val = r.val
    rw [show win0_1.index t 0 = 0 from rfl]; omega
  | ⟨1, _⟩ =>
    blk_simp
    show win0_1.index t 1 * 4096 + n.val = t.val * 4096 + n.val
    rw [show win0_1.index t 1 = t.val from word t]

/-- A column's colour. -/
theorem colour_at : blk2 m c t (ix2 0 n) = m ((c.tc : Thread nD τ).loc main_arg2) (ix2 (whole t n h) 0) := by
  rw [← V_colours m c]
  unfold blk2 Pipeline.Window.fill
  rw [dif_pos (moved_2 t n h)]
  unfold iblk
  refine congrArg (V m c main_v1) (funext fun a => Fin.ext ?_)
  match a with
  | ⟨0, _⟩ =>
    blk_simp
    show win0_2.index t 0 * 1 + 0 = 0
    rw [show win0_2.index t 0 = 0 from rfl]
  | ⟨1, _⟩ =>
    blk_simp
    show win0_2.index t 1 * 4096 + n.val = t.val * 4096 + n.val
    rw [show win0_2.index t 1 = t.val from word t]

/-- A column's coefficient. -/
theorem coefficient_at : blk3 m c t (ix2 0 n) = m ((c.tc : Thread nD τ).loc main_arg3) (ix2 (whole t n h) 0) := by
  rw [← V_coefficients m c]
  unfold blk3 Pipeline.Window.fill
  rw [dif_pos (moved_3 t n h)]
  unfold iblk
  refine congrArg (V m c main_v2) (funext fun a => Fin.ext ?_)
  match a with
  | ⟨0, _⟩ =>
    blk_simp
    show win0_3.index t 0 * 1 + 0 = 0
    rw [show win0_3.index t 0 = 0 from rfl]
  | ⟨1, _⟩ =>
    blk_simp
    show win0_3.index t 1 * 4096 + n.val = t.val * 4096 + n.val
    rw [show win0_3.index t 1 = t.val from word t]

/-- A column's opacity. -/
theorem opacity_at : blk4 m c t (ix2 0 n) = m ((c.tc : Thread nD τ).loc main_arg4) (ix2 (whole t n h) 0) := by
  rw [← V_opacities m c]
  unfold blk4 Pipeline.Window.fill
  rw [dif_pos (moved_4 t n h)]
  unfold iblk
  refine congrArg (V m c main_v4) (funext fun a => Fin.ext ?_)
  match a with
  | ⟨0, _⟩ =>
    blk_simp
    show win0_4.index t 0 * 1 + 0 = 0
    rw [show win0_4.index t 0 = 0 from rfl]
  | ⟨1, _⟩ =>
    blk_simp
    show win0_4.index t 1 * 4096 + n.val = t.val * 4096 + n.val
    rw [show win0_4.index t 1 = t.val from word t]

/-- A column's scale. -/
theorem scale_at : blk5 m c t (ix2 0 n) = m ((c.tc : Thread nD τ).loc main_arg5) (ix2 (whole t n h) 0) := by
  rw [← V_scales m c]
  unfold blk5 Pipeline.Window.fill
  rw [dif_pos (moved_5 t n h)]
  unfold iblk
  refine congrArg (V m c main_v3) (funext fun a => Fin.ext ?_)
  match a with
  | ⟨0, _⟩ =>
    blk_simp
    show win0_5.index t 0 * 1 + 0 = 0
    rw [show win0_5.index t 0 = 0 from rfl]
  | ⟨1, _⟩ =>
    blk_simp
    show win0_5.index t 1 * 4096 + n.val = t.val * 4096 + n.val
    rw [show win0_5.index t 1 = t.val from word t]

end Cert.Value

end
-- ==== Proof.Value.Column.lean ====
/- A column's term as the kernel computes it is the reference's term, where the colour and the opacity are finite. -/
module

public import proofs.«01_k».proof.Proof.Value.Lane

@[expose] public section

noncomputable section

namespace Cert.Value

open Cert.KernelIdeal Cert.KernelIdeal.Gen Cert.Exact
open Idealize.ShloMosaic

/-- The words for one and zero. -/
theorem one_word : (Col.lit 0x3F800000#32 : Ideal .f32) = (1 : EReal) := Ideal.ofBits_one_f32
/-- The zero word is zero. -/
theorem zero_word : (Col.lit 0x00000000#32 : Ideal .f32) = (0 : EReal) := Ideal.ofBits_zero_f32

/-- The column's reciprocal width. -/
theorem isig_eq (q : Col Ideal) : q.isig = Ideal.div 1 (max (Ideal.exp q.scale) width) := by
  unfold Col.isig
  rw [one_word]
  rfl

/-- The column's share. -/
theorem share_eq (q : Col Ideal) : q.share = Ideal.div 1 (1 + Ideal.exp (-(q.coef : EReal))) := by
  have e : (0 : EReal) - (q.coef : EReal) = -(q.coef : EReal) := zero_sub _
  unfold Col.share
  rw [one_word, zero_word, ← e]
  rfl

/-- The column's distance. -/
theorem dist_eq (q : Col Ideal) (s0 s1 s2 : EReal) (p s : Fin 3 → EReal) (h0 : q.p0 = p 0) (h1 : q.p1 = p 1) (h2 : q.p2 = p 2)
    (k0 : s0 = s 0) (k1 : s1 = s 1) (k2 : s2 = s 2) :
    q.dist s0 s1 s2 = Ideal.sqrt (∑ x : Fin 3, (p x - s x) * (p x - s x)) := by
  rw [Fin.sum_univ_three, ← h0, ← h1, ← h2, ← k0, ← k1, ← k2]
  rfl

/-- The column's term is the kernel's formula. -/
theorem colTerm_eq (r : EReal) (q : Col Ideal) (s0 s1 s2 : EReal) :
    colTerm r q s0 s1 s2 = kernelTerm width peak ((q.opac : EReal) * (q.opac : EReal) * ((q.colour : EReal) * (q.colour : EReal)))
      q.share q.isig (r - q.dist s0 s1 s2) := by
  unfold colTerm laneTerm kernelTerm Col.amp0 Col.amp1 Col.amp Col.quad
  rw [scale_const, one_word]
  rfl

/-- The kernel's term of a column is the reference's, for a finite colour and a finite opacity. -/
theorem column_term (D : Data) (n : Fin 200000) (b : Fin 512) (q : Col Ideal) (s0 s1 s2 : EReal)
    (h0 : q.p0 = D.point n 0) (h1 : q.p1 = D.point n 1) (h2 : q.p2 = D.point n 2)
    (k0 : s0 = D.scan 0) (k1 : s1 = D.scan 1) (k2 : s2 = D.scan 2)
    (hcol : q.colour = D.colour n) (hcoef : q.coef = D.coef n) (hop : q.opac = D.opac n) (hsc : q.scale = D.scale n)
    (fc : ∃ x : ℝ, D.colour n = (x : EReal)) (fo : ∃ x : ℝ, D.opac n = (x : EReal)) :
    colTerm (radius b) q s0 s1 s2 = D.term n b := by
  rw [colTerm_eq, dist_eq q s0 s1 s2 (D.point n) D.scan h0 h1 h2 k0 k1 k2, isig_eq, share_eq, hcol, hcoef, hop, hsc]
  unfold Data.term Data.dist Data.sigma Data.share Data.intensity
  obtain ⟨x, hx⟩ := fc
  obtain ⟨y, hy⟩ := fo
  obtain ⟨h, hh, eh⟩ := width_lit
  obtain ⟨k, k0, k1, ek⟩ := peak_lit
  obtain ⟨c, c0, c1, ec⟩ := share_real (-D.coef n)
  have eI : D.opac n * D.opac n * (D.colour n * D.colour n) = ((y * y * (x * x) : ℝ) : EReal) := by
    rw [hx, hy]; simp only [EReal.coe_mul]
  have ew : width = (h : EReal) := eh
  have ep : peak = (k : EReal) := ek
  rw [eI, ec, ew, ep]
  exact term_eq hh k0 k1 c0 c1 (mul_nonneg (mul_self_nonneg y) (mul_self_nonneg x)) (le_max_right _ _) _

end Cert.Value

end
-- ==== Proof.Value.Output.lean ====
/- What the kernel's run leaves in its result. -/
module

public import proofs.«01_k».proof.Proof.Exact.Frame
public import proofs.«01_k».proof.Proof.Value.Total
public import proofs.«01_k».proof.Proof.Value.Blocks
public import proofs.«01_k».proof.Proof.Value.Column

@[expose] public section

noncomputable section

namespace Cert.Value

open Cert.KernelIdeal Cert.KernelIdeal.Gen Cert.Exact
open Idealize.ShloMosaic Idealize.ShloMosaic.TcCoe Idealize.ShloMosaic.ValueIdx Idealize.ShloMosaic.StableHlo
open Idealize.SL.Sem

section Output

variable {F : FTy → Type} [FloatOps F] [Named F] (m : (ℓ : Loc nD τ sig) → Buf (Elt F) ℓ) (c : Dev nD)

/-- The last point. -/
def lastPt : Fin cfg0.N := ⟨48, Nat.lt_of_lt_of_eq (by decide : 48 < 49) N_0.symm⟩

/-- Step 48 is one of the steps. -/
theorem last_lt : 48 < cfg0.N := lastPt.isLt

/-- The last point writes the whole result array. -/
theorem out_array : (dats m 0 c).arrAt 6 cfg0.N = k0_pay2 (sums m c 48 last_lt) := by
  refine (dats m 0 c).arrAt_eq_of_after_last 6 lastPt (by decide +kernel) _ fun j => ?_
  blk_simp
  rw [after_6]
  rfl

/-- The result after the host line. -/
theorem out_row : Pipeline.afterTail₀ cfgs (dats m) 0 (V0 m) [hostOps1] c main_v6
    = shapeCast S512 (k0_pay2 (sums m c 48 last_lt)) shapeCasts_S512x1_S512 := by
  unfold Pipeline.afterTail₀
  simp only [List.flatten_cons, List.flatten_nil, List.append_nil]
  after_reads_simp
  exact congrArg (fun x => shapeCast S512 x shapeCasts_S512x1_S512)
    ((Pipeline.withArrays_arr spec0 (by decide) c (V0 m c) _ 6).trans (out_array m c))

end Output

section Result

variable (m : (ℓ : Loc nD τ sig) → Buf (Elt Ideal) ℓ) (c : Dev nD)

/-- The launched arrays' elements. -/
def launched : Data where
  point n x := m ((c.tc : Thread nD τ).loc main_arg0) (ix2 n x)
  scan x := m ((c.tc : Thread nD τ).loc main_arg1) (ix1 x)
  colour n := m ((c.tc : Thread nD τ).loc main_arg2) (ix2 n 0)
  coef n := m ((c.tc : Thread nD τ).loc main_arg3) (ix2 n 0)
  opac n := m ((c.tc : Thread nD τ).loc main_arg4) (ix2 n 0)
  scale n := m ((c.tc : Thread nD τ).loc main_arg5) (ix2 n 0)

/-- What number `n` of the padded columns adds to bin `b`. -/
def numbered (b : Fin 512) (n : ℕ) : EReal := if h : n < 200000 then (launched m c).term ⟨n, h⟩ b else 0

variable (fc : ∀ n, ∃ x : ℝ, (launched m c).colour n = (x : EReal)) (fo : ∀ n, ∃ x : ℝ, (launched m c).opac n = (x : EReal))

include fc fo in
/-- A place of a point's blocks adds the term of its number. -/
theorem place_numbered (b : Fin 512) (t : Fin cfg0.N) (n : Fin 4096) :
    placeTerm t.val (blk0 m c t) (blk1 m c t) (blk2 m c t) (blk3 m c t) (blk4 m c t) (blk5 m c t) b n
      = numbered m c b (4096 * t.val + n.val) := by
  unfold placeTerm numbered
  rw [Nat.mul_comm 4096 t.val]
  by_cases h : t.val * 4096 + n.val < 200000
  · rw [if_pos h, dif_pos h]
    exact column_term (launched m c) (whole t n h) b _ _ _ _ (means_at m c t n h 0) (means_at m c t n h 1) (means_at m c t n h 2)
      (scan_at m c t 0) (scan_at m c t 1) (scan_at m c t 2) (colour_at m c t n h) (coefficient_at m c t n h)
      (opacity_at m c t n h) (scale_at m c t n h) (fc _) (fo _)
  · rw [if_neg h, dif_neg h]

include fc fo in
/-- The result at bin `b`. -/
theorem out_apply (b : Fin 512) :
    shapeCast S512 (k0_pay2 (sums m c 48 last_lt)) shapeCasts_S512x1_S512 (ix1 b) = (launched m c).result b := by
  rw [shapeCast_apply _ _ (ix1 b) (ix2 b (0 : Fin 1)) (by
    rw [Shape.rowMajor_val_two, Shape.rowMajor_val_one]; show b.val * 1 + 0 = b.val; omega), quotient_apply,
    sums_total m c b (numbered m c b) (place_numbered m c fc fo b) (fun n hn => dif_neg (Nat.not_lt.mpr hn))]
  have e : (fun n : Fin 200000 => numbered m c b n.val) = fun n => (launched m c).term n b := funext fun n => dif_pos n.isLt
  rw [e]
  rfl

end Result

end Cert.Value

end
-- ==== Proof.Plain.Read.lean ====
/- What the reference's buffers hold at one index, in terms of its arguments. -/
module

public import proofs.«01_k».proof.Proof.Plain.Line
public import Idealize.ShloMosaic.PureOps.Ideal.Laws
public import proofs.«01_k».proof.Proof.Value.Result
public import Idealize.ShloMosaic.Lib.Pointwise

@[expose] public section

noncomputable section

namespace Cert.Plain

open Cert.ReferenceIdeal Cert.ReferenceIdeal.Gen
open Idealize.ShloMosaic Idealize.ShloMosaic.TcCoe Idealize.SL.Sem Idealize.ShloMosaic.StableHlo

open Cert.Value

variable (V : Valuation τ sig (Elt Ideal))

/-- An element read as an extended real. -/
def el (x : EReal) : EReal := x

/-- The arguments' elements. -/
def data : Data where
  point n x := V (Proc.devRef .tc main_arg0) (ix2 n x)
  scan x := V (Proc.devRef .tc main_arg1) (ix1 x)
  colour n := V (Proc.devRef .tc main_arg2) (ix2 n 0)
  coef n := V (Proc.devRef .tc main_arg3) (ix2 n 0)
  opac n := V (Proc.devRef .tc main_arg4) (ix2 n 0)
  scale n := V (Proc.devRef .tc main_arg5) (ix2 n 0)

/-- The clamped start of a slice as large as its operand is zero. -/
theorem clamped_zero (s : Shape) (start : Fin s.rank → Int) (a : Fin s.rank) (h : s.rank = s.rank) :
    Host.clampedStart s s h start a = 0 := by
  unfold Host.clampedStart
  have e : s.size (a.cast h.symm) = s.size a := rfl
  rw [e]
  omega

/-- The share of the first density at column `n`. -/
theorem share_at (n : Fin 200000) : el (after early V (Proc.devRef .tc main_v17) (ix2 n 0)) = (data V).share n := by
  unfold Data.share data el
  after_reads_at

/-- The width at column `n`. -/
theorem width_at (n : Fin 200000) : el (after early V (Proc.devRef .tc main_v36) (ix2 n 0)) = (data V).sigma n := by
  have h : el (after early V (Proc.devRef .tc main_v36) (ix2 n 0)) =
      max (Ideal.div (∑ x : Fin 1, Ideal.exp (el (V (Proc.devRef .tc main_arg5) (ix2 n x)))) 1) width := by
    unfold el width
    after_reads_at
  rw [h, Fin.sum_univ_one, over_one]
  rfl

/-- The distance at column `n`. -/
theorem dist_at (n : Fin 200000) : el (after early V (Proc.devRef .tc main_v21) (ix2 n 0)) = (data V).dist n := by
  unfold Data.dist data el
  after_reads_at

/-- The intensity at column `n`. -/
theorem intensity_at (n : Fin 200000) : el (after early V (Proc.devRef .tc main_v11) (ix1 n)) = (data V).intensity n := by
  unfold Data.intensity data el
  after_reads_at
  have e : ∀ (x y : Nat) (hx : x < 200000) (hy : y < 1), x = n.val →
      (ix2 (⟨x, hx⟩ : Fin 200000) (⟨y, hy⟩ : Fin 1) : Shape.Idx S200000x1) = ix2 n 0 := by
    intro x y hx hy ex
    have ey : y = 0 := by omega
    subst ex ey
    rfl
  rw [e _ _ _ _ (by rw [clamped_zero]; omega)]

/-- The bins' radii, as the last division reads them. -/
theorem radius_at (b : Fin 512) : el (after early V (Proc.devRef .tc main_v28) (ix1 b)) = radius b := by
  unfold radius el
  after_reads_at

/-- The bins' radii, as the densities read them. -/
theorem radius_row_at (b : Fin 512) : el (after early V (Proc.devRef .tc main_v29) (ix2 0 b)) = radius b := by
  unfold radius el
  after_reads_at

/-- Two lists of operations in a row. -/
theorem after_chain (l₁ l₂ : List (HloOp τ sig (Elt Ideal))) :
    after (l₁ ++ l₂) V = after l₂ (after l₁ V) := by
  induction l₁ generalizing V <;> simp_all

/-- The clamp's bounds. -/
theorem bound_zero : (id (constant (F := Ideal) S_ .f32 0x00000000#32) ix0 : EReal) = 0 := Ideal.ofBits_zero_f32
/-- The clip's upper bound is one. -/
theorem bound_one : (id (constant (F := Ideal) S_ .f32 0x3F800000#32) ix0 : EReal) = 1 := Ideal.ofBits_one_f32

/-- The result at bin `b`, from the buffers the first part fills. -/
theorem late_at (b : Fin 512) : el (after late V (Proc.devRef .tc main_v70) (ix1 b)) =
    Ideal.div (∑ n : Fin 200000, plainTerm width peak
        (el (V (Proc.devRef .tc main_v11) (ix1 n))) (el (V (Proc.devRef .tc main_v17) (ix2 n 0)))
        (el (V (Proc.devRef .tc main_v36) (ix2 n 0)))
        (el (V (Proc.devRef .tc main_v29) (ix2 0 b)) - el (V (Proc.devRef .tc main_v21) (ix2 n 0))))
      (Ideal.pow (el (V (Proc.devRef .tc main_v28) (ix1 b))) (Ideal.ofBits .f32 0x40000000#32)) := by
  unfold plainTerm gauss
  rw [← neg_half_lit]
  unfold el
  after_reads_at
  erw [bound_zero, bound_one]

/-- The same, from what those buffers are known to hold. -/
theorem late_of {I c s d : Fin 200000 → EReal} {r r' : EReal} (b : Fin 512)
    (hI : ∀ n : Fin 200000, el (V (Proc.devRef .tc main_v11) (ix1 n)) = I n)
    (hc : ∀ n : Fin 200000, el (V (Proc.devRef .tc main_v17) (ix2 n 0)) = c n)
    (hs : ∀ n : Fin 200000, el (V (Proc.devRef .tc main_v36) (ix2 n 0)) = s n)
    (hd : ∀ n : Fin 200000, el (V (Proc.devRef .tc main_v21) (ix2 n 0)) = d n)
    (hr : el (V (Proc.devRef .tc main_v29) (ix2 0 b)) = r) (hr' : el (V (Proc.devRef .tc main_v28) (ix1 b)) = r') :
    el (after late V (Proc.devRef .tc main_v70) (ix1 b)) =
      Ideal.div (∑ n : Fin 200000, plainTerm width peak (I n) (c n) (s n) (r - d n))
        (Ideal.pow r' (Ideal.ofBits .f32 0x40000000#32)) := by
  obtain rfl : _ = I := funext hI
  obtain rfl : _ = c := funext hc
  obtain rfl : _ = s := funext hs
  obtain rfl : _ = d := funext hd
  subst hr hr'
  exact late_at V b

/-- The result at bin `b`. -/
theorem result_at (b : Fin 512) : el (after (early ++ late) V (Proc.devRef .tc main_v70) (ix1 b)) = (data V).result b := by
  obtain ⟨r, hr⟩ := radius_real b
  rw [after_chain, late_of (after early V) b (intensity_at V) (share_at V) (width_at V) (dist_at V) (radius_row_at V b)
    (radius_at V b)]
  unfold Data.result Data.term
  rw [hr, pow_two_real]

end Cert.Plain

end
-- ==== Proof.Equation.lean ====
/- The kernel's result is the reference's, bin by bin, for finite colours and opacities. -/
module

public import proofs.«01_k».proof.Defs
public import proofs.«01_k».proof.Proof.Gen.Pre_finite_intensity
public import proofs.«01_k».proof.Proof.Value.Output
public import proofs.«01_k».proof.Proof.Plain.Run
public import proofs.«01_k».proof.Proof.Plain.Read

@[expose] public section

noncomputable section

namespace Cert.Equation

open Idealize.ShloMosaic Idealize.ShloMosaic.TcCoe Idealize.SL.Sem
open Cert.Value

/-- Both conditions of a conjunction of bits. -/
theorem both_of_and {x y : BitVec 1} (h : x &&& y = 1#1) : x = 1#1 ∧ y = 1#1 := by
  revert h; revert x y; decide

/-- The precondition says that every colour and every opacity is a real number. -/
theorem real_of_pre (m : (ℓ : Loc Cert.KernelIdeal.nD Cert.KernelIdeal.τ Cert.KernelIdeal.sig) → Buf (Elt Ideal) ℓ)
    (h : Pre_KernelIdeal_finite_intensity m) (c : Dev Cert.KernelIdeal.nD) (n : Fin 200000) :
    (∃ x : ℝ, (launched m c).colour n = (x : EReal)) ∧ (∃ x : ℝ, (launched m c).opac n = (x : EReal)) := by
  have e := congrFun (h c) (ValueIdx.ix2 n (0 : Fin 1))
  obtain ⟨e1, e2⟩ := both_of_and e
  refine ⟨real_of_finite ?_, real_of_finite ?_⟩
  · rw [← top_lit]
    exact e1
  · rw [← top_lit]
    exact e2

/-- The reference's arguments hold the kernel's elements. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.Plain.data (Idealize.ShloMosaic.StableHlo.launchContents m' c) = launched m c := by
  unfold Cert.Plain.data launched
  rw [← h0, ← h1, ← h2, ← h3, ← h4, ← h5]
  rfl

/-- From one launch memory both programs end with the same histogram, their arguments unchanged. -/
theorem algebraic : algebraic_KernelIdeal_ReferenceIdeal_pre_finite_intensity := by
  intro m g m' g' hpre hargs
  refine ⟨fun c i => (launched m c).result (i 0), ?_, ?_⟩
  · refine (θ_run Cert.KernelIdeal.defs _ _).mono (fun r h c => ⟨?_, Cert.Exact.frame_post m h.1 c⟩) (Cert.Exact.run_main m g)
    refine ((h.1 c).2 Cert.KernelIdeal.main_v6 (Pipeline.mem_restRefs_of Cert.KernelIdeal.main_v6 (by decide) (by decide))).trans ?_
    rw [out_row]
    funext i
    rw [ValueIdx.eq_ix1 i]
    exact out_apply m c (fun n => (real_of_pre m hpre c n).1) (fun n => (real_of_pre m hpre c n).2) (i 0)
  · refine (θ_run Cert.ReferenceIdeal.defs _ _).mono (fun r h c => ⟨?_, (h c Cert.ReferenceIdeal.main_arg0).trans (Cert.Plain.kept_0 _),
      (h c Cert.ReferenceIdeal.main_arg1).trans (Cert.Plain.kept_1 _), (h c Cert.ReferenceIdeal.main_arg2).trans (Cert.Plain.kept_2 _),
      (h c Cert.ReferenceIdeal.main_arg3).trans (Cert.Plain.kept_3 _), (h c Cert.ReferenceIdeal.main_arg4).trans (Cert.Plain.kept_4 _),
      (h c Cert.ReferenceIdeal.main_arg5).trans (Cert.Plain.kept_5 _), (h c Cert.ReferenceIdeal.main_arg6).trans (Cert.Plain.kept_6 _)⟩)
      (Cert.Plain.run_line m' g')
    obtain ⟨h0, h1, h2, h3, h4, h5, _⟩ := hargs c
    refine (h c Cert.ReferenceIdeal.main_v70).trans ?_
    funext i
    have ei : i = Idealize.ShloMosaic.ix1 (i 0) := by
      funext a; match a with | ⟨0, _⟩ => rfl
    rw [ei]
    exact (Cert.Plain.result_at _ (i 0)).trans (congrArg (fun D : Data => D.result (i 0)) (data_eq m m' c h0 h1 h2 h3 h4 h5))

end Cert.Equation

end
-- ==== Proof.lean ====
/- The certificate: frames of the three programs, the named constant, and the equation of the kernel with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Words.Frame
public import proofs.«01_k».proof.Proof.Exact.Frame
public import proofs.«01_k».proof.Proof.Plain.Run
public import proofs.«01_k».proof.Proof.Gen.Pre_finite_intensity
public import proofs.«01_k».proof.Proof.Equation

@[expose] public section

noncomputable section

namespace Cert.Proof

open Idealize.ShloMosaic Idealize.SL.Sem

/-- The constant the exact kernel reads by name is the real number -(1/2)/log 2. -/
theorem named : preserves_Kernel_KernelIdeal :=
  IdealRules.named_const.statement Cert.KernelIdeal.κ "neg_half_log2e" .f32 0xBF38AA3B#32
    ((-((1 / 2) * (Real.log 2)⁻¹) : ℝ) : EReal) rfl

/-- Every claim of the certificate. -/
theorem claim : Cert.Claim :=
  ⟨Cert.Kernel.Gen.facts, Cert.KernelIdeal.Gen.facts, Cert.ReferenceIdeal.Gen.facts, Cert.Pre_finite_intensity.Gen.facts,
    fun m g _ => Cert.Words.frame m g, fun m g _ => Cert.Exact.frame m g, fun m g _ => Cert.Exact.frame m g,
    fun m g _ => Cert.Plain.frame m g, fun m g _ => Cert.Plain.frame m g, named, Cert.Equation.algebraic⟩

end Cert.Proof

end
